-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_totals_fit [hPre_totals_fit : Cert.Pre_totals_fit.Facts] (m : (ℓ : Loc Cert.KernelIdeal.nD Cert.KernelIdeal.τ Cert.KernelIdeal.sig) → Buf (Elt Ideal) ℓ) : Prop :=
  ∀ c : Dev Cert.KernelIdeal.nD,
    (Cert.Pre_totals_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_totals_fit [hPre_totals_fit : Cert.Pre_totals_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_totals_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_totals_fit [hKernelIdeal : Cert.KernelIdeal.Facts] [hPre_totals_fit : Cert.Pre_totals_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_totals_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_totals_fit [hReferenceIdeal : Cert.ReferenceIdeal.Facts] [hPre_totals_fit : Cert.Pre_totals_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_totals_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_127" .f32 0x3C010204#32 ((1 / 127 : ℝ) : EReal)
  ∧ IdealRules.named_const.Statement Cert.KernelIdeal.κ "inv_255" .f32 0x3B808081#32 ((1 / 255 : ℝ) : EReal)
  ∧ IdealRules.named_const.Statement Cert.KernelIdeal.κ "r128_255" .f32 0x3F008081#32 ((128 / 255 : ℝ) : EReal)

def algebraic_KernelIdeal_ReferenceIdeal_pre_totals_fit [hKernelIdeal : Cert.KernelIdeal.Facts] [hReferenceIdeal : Cert.ReferenceIdeal.Facts] [hPre_totals_fit : Cert.Pre_totals_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_totals_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_totals_fit : Cert.Pre_totals_fit.Facts),
    quiescent_Kernel (hKernel := hKernel)
    ∧ quiescent_KernelIdeal (hKernelIdeal := hKernelIdeal)
    ∧ quiescent_KernelIdeal_pre_totals_fit (hKernelIdeal := hKernelIdeal) (hPre_totals_fit := hPre_totals_fit)
    ∧ quiescent_ReferenceIdeal (hReferenceIdeal := hReferenceIdeal)
    ∧ quiescent_ReferenceIdeal_pre_totals_fit (hReferenceIdeal := hReferenceIdeal) (hPre_totals_fit := hPre_totals_fit)
    ∧ preserves_Kernel_KernelIdeal
    ∧ algebraic_KernelIdeal_ReferenceIdeal_pre_totals_fit (hKernelIdeal := hKernelIdeal) (hReferenceIdeal := hReferenceIdeal) (hPre_totals_fit := hPre_totals_fit)
-- ==== Pre_totals_fit.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩
abbrev S10000 : Shape := ⟨1, ![10000]⟩
abbrev S10000x1 : Shape := ⟨2, ![10000, 1]⟩

class Facts : Prop where
  bcast_S_S10000x10000 : S_.BroadcastsInDim S10000x10000 (![] : Fin 0 → Fin S10000x10000.rank)
  reducesTo_S10000x128_S128_d0 : S10000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  reducesTo_S10000x10000_S10000_d1 : S10000x10000.ReducesTo [1] S10000
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def fn_round {F : FTy → Type} [FloatOps F] (arg0 : FVec F S10000x10000 .f32) : FVec F S10000x10000 .f32 :=
  let v0 : FVec F S10000x10000 .f32 := Host.roundeven arg0
  v0

def fn_clip {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_round_0 {F : FTy → Type} [FloatOps F] (arg0 : FVec F S10000x128 .f32) : FVec F S10000x128 .f32 :=
  let v0 : FVec F S10000x128 .f32 := Host.roundeven arg0
  v0

def fn_part4 {F : FTy → Type} [FloatOps F] (main_v8 : FVec F S10000x10000 .f32) (main_v28 : FVec F S10000x128 .f32) (main_v63 : FVec F S10000x128 .f32) (main_v67 : FVec F S1x128 .f32) (main_v72 : FVec F S1x128 .f32) : IVec S10000x128 1 :=
  let main_cst_22 : FVec F S_ .f32 := constant S_ .f32 0x0DA24260#32
  let main_v73 : FVec F S1x128 .f32 := broadcastInDim S1x128 ![] bcast_S_S1x128 main_cst_22
  let main_v74 : FVec F S1x128 .f32 := maximumf main_v72 main_v73
  let main_v75 : FVec F S10000x128 .f32 := broadcastInDim S10000x128 ![0, 1] bcast_S1x128_S10000x128_0_1 main_v67
  let main_v76 : FVec F S10000x128 .f32 := subf main_v63 main_v75
  let main_cst_23 : FVec F S_ .f32 := constant S_ .f32 0x42FE0000#32
  let main_v77 : FVec F S1x128 .f32 := broadcastInDim S1x128 ![] bcast_S_S1x128 main_cst_23
  let main_v78 : FVec F S1x128 .f32 := Host.divf main_v77 main_v74
  let main_v79 : FVec F S10000x128 .f32 := broadcastInDim S10000x128 ![0, 1] bcast_S1x128_S10000x128_0_1 main_v78
  let main_v80 : FVec F S10000x128 .f32 := mulf main_v76 main_v79
  let main_v81 : FVec F S10000x128 .f32 := fn_round_0 (F := F) main_v80
  let main_v82 : FVec F S10000x128 .f32 := Host.absf main_v81
  let main_v83 : FVec F S10000x128 .f32 := (fun l r => Host.dotGeneral dot_S10000x10000_S10000x128_S10000x128_1_0_0_1_n_n none l r) main_v8 main_v82
  let main_v84 : FVec F S10000x128 .f32 := maximumf main_v28 main_v83
  let main_cst_24 : FVec F S_ .f32 := constant S_ .f32 0x4C800000#32
  let main_v85 : FVec F S10000x128 .f32 := broadcastInDim S10000x128 ![] bcast_S_S10000x128 main_cst_24
  let main_v86 : IVec S10000x128 1 := cmpf .ole main_v84 main_v85
  main_v86

def fn_part3 {F : FTy → Type} [FloatOps F] (main_arg1 : FVec F S10000x10000 .f32) (main_v8 : FVec F S10000x10000 .f32) (main_v28 : FVec F S10000x128 .f32) (main_v32 : FVec F S1x128 .f32) (main_v39 : FVec F S1x128 .f32) (main_v46 : FVec F S10000x128 .f32) (main_v52 : FVec F S10000x10000 .f32) (main_cst_17 : FVec F S_ .f32) : IVec S10000x128 1 :=
  let main_v53 : FVec F S1x128 .f32 := broadcastInDim S1x128 ![] bcast_S_S1x128 main_cst_17
  let main_v54 : FVec F S1x128 .f32 := Host.divf main_v39 main_v53
  let main_v55 : FVec F S10000x128 .f32 := broadcastInDim S10000x128 ![0, 1] bcast_S1x128_S10000x128_0_1 main_v54
  let main_v56 : FVec F S10000x128 .f32 := mulf main_v46 main_v55
  let main_v57 : FVec F S10000x128 .f32 := (fun l r => Host.dotGeneral dot_S10000x10000_S10000x128_S10000x128_1_0_0_1_n_n none l r) main_v52 main_v56
  let main_cst_18 : FVec F S_ .f32 := constant S_ .f32 0x00000000#32
  let main_v58 : FVec F S10000 .f32 := (fun x v => Host.reduceAdd x v reducesTo_S10000x10000_S10000_d1 h_S_) main_arg1 main_cst_18
  let main_v59 : FVec F S10000x1 .f32 := broadcastInDim S10000x1 ![0] bcast_S10000_S10000x1_0 main_v58
  let main_v60 : FVec F S10000x128 .f32 := broadcastInDim S10000x128 ![0, 1] bcast_S10000x1_S10000x128_0_1 main_v59
  let main_v61 : FVec F S10000x128 .f32 := broadcastInDim S10000x128 ![0, 1] bcast_S1x128_S10000x128_0_1 main_v32
  let main_v62 : FVec F S10000x128 .f32 := mulf main_v60 main_v61
  let main_v63 : FVec F S10000x128 .f32 := addf main_v57 main_v62
  let main_cst_19 : FVec F S_ .f32 := constant S_ .f32 0x00000000#32
  let main_v64 : FVec F S128 .f32 := (fun x v => Host.reduceAdd x v reducesTo_S10000x128_S128_d0 h_S_) main_v63 main_cst_19
  let main_v65 : FVec F S1x128 .f32 := broadcastInDim S1x128 ![1] bcast_S128_S1x128_1 main_v64
  let main_cst_20 : FVec F S_ .f32 := constant S_ .f32 0x461C4000#32
  let main_v66 : FVec F S1x128 .f32 := broadcastInDim S1x128 ![] bcast_S_S1x128 main_cst_20
  let main_v67 : FVec F S1x128 .f32 := Host.divf main_v65 main_v66
  let main_v68 : FVec F S10000x128 .f32 := broadcastInDim S10000x128 ![0, 1] bcast_S1x128_S10000x128_0_1 main_v67
  let main_v69 : FVec F S10000x128 .f32 := subf main_v63 main_v68
  let main_v70 : FVec F S10000x128 .f32 := Host.absf main_v69
  let main_cst_21 : FVec F S_ .f32 := constant S_ .f32 0xFF800000#32
  let main_v71 : FVec F S128 .f32 := (fun x v => Host.reduce FloatOps.maximumf x v reducesTo_S10000x128_S128_d0 h_S_) main_v70 main_cst_21
  let main_v72 : FVec F S1x128 .f32 := broadcastInDim S1x128 ![1] bcast_S128_S1x128_1 main_v71
  fn_part4 (F := F) main_v8 main_v28 main_v63 main_v67 main_v72

def fn_part2 {F : FTy → Type} [FloatOps F] (main_arg1 : FVec F S10000x10000 .f32) (main_v1 : FVec F S10000x128 .f32) (main_v8 : FVec F S10000x10000 .f32) (main_v28 : FVec F S10000x128 .f32) (main_v32 : FVec F S1x128 .f32) (main_v35 : FVec F S10000x128 .f32) (main_cst_10 : FVec F S_ .f32) : IVec S10000x128 1 :=
  let main_v36 : FVec F S128 .f32 := (fun x v => Host.reduce FloatOps.maximumf x v reducesTo_S10000x128_S128_d0 h_S_) main_v35 main_cst_10
  let main_v37 : FVec F S1x128 .f32 := broadcastInDim S1x128 ![1] bcast_S128_S1x128_1 main_v36
  let main_cst_11 : FVec F S_ .f32 := constant S_ .f32 0x0DA24260#32
  let main_v38 : FVec F S1x128 .f32 := broadcastInDim S1x128 ![] bcast_S_S1x128 main_cst_11
  let main_v39 : FVec F S1x128 .f32 := maximumf main_v37 main_v38
  let main_v40 : FVec F S10000x128 .f32 := broadcastInDim S10000x128 ![0, 1] bcast_S1x128_S10000x128_0_1 main_v32
  let main_v41 : FVec F S10000x128 .f32 := subf main_v1 main_v40
  let main_cst_12 : FVec F S_ .f32 := constant S_ .f32 0x42FE0000#32
  let main_v42 : FVec F S1x128 .f32 := broadcastInDim S1x128 ![] bcast_S_S1x128 main_cst_12
  let main_v43 : FVec F S1x128 .f32 := Host.divf main_v42 main_v39
  let main_v44 : FVec F S10000x128 .f32 := broadcastInDim S10000x128 ![0, 1] bcast_S1x128_S10000x128_0_1 main_v43
  let main_v45 : FVec F S10000x128 .f32 := mulf main_v41 main_v44
  let main_v46 : FVec F S10000x128 .f32 := fn_round_0 (F := F) main_v45
  let main_cst_13 : FVec F S_ .f32 := constant S_ .f32 0x437F0000#32
  let main_v47 : FVec F S10000x10000 .f32 := broadcastInDim S10000x10000 ![] bcast_S_S10000x10000 main_cst_13
  let main_v48 : FVec F S10000x10000 .f32 := mulf main_arg1 main_v47
  let main_v49 : FVec F S10000x10000 .f32 := fn_round (F := F) main_v48
  let main_cst_14 : FVec F S_ .f32 := constant S_ .f32 0x00000000#32
  let main_cst_15 : FVec F S_ .f32 := constant S_ .f32 0x437F0000#32
  let main_v50 : FVec F S10000x10000 .f32 := fn_clip (F := F) main_v49 main_cst_14 main_cst_15
  let main_cst_16 : FVec F S_ .f32 := constant S_ .f32 0x437F0000#32
  let main_v51 : FVec F S10000x10000 .f32 := broadcastInDim S10000x10000 ![] bcast_S_S10000x10000 main_cst_16
  let main_v52 : FVec F S10000x10000 .f32 := Host.divf main_v50 main_v51
  let main_cst_17 : FVec F S_ .f32 := constant S_ .f32 0x42FE0000#32
  fn_part3 (F := F) main_arg1 main_v8 main_v28 main_v32 main_v39 main_v46 main_v52 main_cst_17

def fn_part1 {F : FTy → Type} [FloatOps F] (main_arg1 : FVec F S10000x10000 .f32) (main_v1 : FVec F S10000x128 .f32) (main_v8 : FVec F S10000x10000 .f32) (main_v12 : FVec F S1x128 .f32) (main_v16 : FVec F S128 .f32) : IVec S10000x128 1 :=
  let main_v17 : FVec F S1x128 .f32 := broadcastInDim S1x128 ![1] bcast_S128_S1x128_1 main_v16
  let main_cst_6 : FVec F S_ .f32 := constant S_ .f32 0x0DA24260#32
  let main_v18 : FVec F S1x128 .f32 := broadcastInDim S1x128 ![] bcast_S_S1x128 main_cst_6
  let main_v19 : FVec F S1x128 .f32 := maximumf main_v17 main_v18
  let main_v20 : FVec F S10000x128 .f32 := broadcastInDim S10000x128 ![0, 1] bcast_S1x128_S10000x128_0_1 main_v12
  let main_v21 : FVec F S10000x128 .f32 := subf main_v1 main_v20
  let main_cst_7 : FVec F S_ .f32 := constant S_ .f32 0x42FE0000#32
  let main_v22 : FVec F S1x128 .f32 := broadcastInDim S1x128 ![] bcast_S_S1x128 main_cst_7
  let main_v23 : FVec F S1x128 .f32 := Host.divf main_v22 main_v19
  let main_v24 : FVec F S10000x128 .f32 := broadcastInDim S10000x128 ![0, 1] bcast_S1x128_S10000x128_0_1 main_v23
  let main_v25 : FVec F S10000x128 .f32 := mulf main_v21 main_v24
  let main_v26 : FVec F S10000x128 .f32 := fn_round_0 (F := F) main_v25
  let main_v27 : FVec F S10000x128 .f32 := Host.absf main_v26
  let main_v28 : FVec F S10000x128 .f32 := (fun l r => Host.dotGeneral dot_S10000x10000_S10000x128_S10000x128_1_0_0_1_n_n none l r) main_v8 main_v27
  let main_cst_8 : FVec F S_ .f32 := constant S_ .f32 0x00000000#32
  let main_v29 : FVec F S128 .f32 := (fun x v => Host.reduceAdd x v reducesTo_S10000x128_S128_d0 h_S_) main_v1 main_cst_8
  let main_v30 : FVec F S1x128 .f32 := broadcastInDim S1x128 ![1] bcast_S128_S1x128_1 main_v29
  let main_cst_9 : FVec F S_ .f32 := constant S_ .f32 0x461C4000#32
  let main_v31 : FVec F S1x128 .f32 := broadcastInDim S1x128 ![] bcast_S_S1x128 main_cst_9
  let main_v32 : FVec F S1x128 .f32 := Host.divf main_v30 main_v31
  let main_v33 : FVec F S10000x128 .f32 := broadcastInDim S10000x128 ![0, 1] bcast_S1x128_S10000x128_0_1 main_v32
  let main_v34 : FVec F S10000x128 .f32 := subf main_v1 main_v33
  let main_v35 : FVec F S10000x128 .f32 := Host.absf main_v34
  let main_cst_10 : FVec F S_ .f32 := constant S_ .f32 0xFF800000#32
  fn_part2 (F := F) main_arg1 main_v1 main_v8 main_v28 main_v32 main_v35 main_cst_10

def fn {F : FTy → Type} [FloatOps F] (main_arg0 : FVec F S10000x128 .f32) (main_arg1 : FVec F S10000x10000 .f32) (main_arg2 : FVec F S128x128 .f32) (main_arg3 : FVec F S128 .f32) : IVec S10000x128 1 :=
  let main_v0 : FVec F S10000x128 .f32 := (fun l r => Host.dotGeneral dot_S10000x128_S128x128_S10000x128_1_0_0_1_n_n none l r) main_arg0 main_arg2
  let main_v1 : FVec F S10000x128 .f32 := (fun l r => Host.dotGeneral dot_S10000x10000_S10000x128_S10000x128_1_0_0_1_n_n none l r) main_arg1 main_v0
  let main_cst : FVec F S_ .f32 := constant S_ .f32 0x437F0000#32
  let main_v2 : FVec F S10000x10000 .f32 := broadcastInDim S10000x10000 ![] bcast_S_S10000x10000 main_cst
  let main_v3 : FVec F S10000x10000 .f32 := mulf main_arg1 main_v2
  let main_v4 : FVec F S10000x10000 .f32 := fn_round (F := F) main_v3
  let main_cst_0 : FVec F S_ .f32 := constant S_ .f32 0x00000000#32
  let main_cst_1 : FVec F S_ .f32 := constant S_ .f32 0x437F0000#32
  let main_v5 : FVec F S10000x10000 .f32 := fn_clip (F := F) main_v4 main_cst_0 main_cst_1
  let main_cst_2 : FVec F S_ .f32 := constant S_ .f32 0x43000000#32
  let main_v6 : FVec F S10000x10000 .f32 := broadcastInDim S10000x10000 ![] bcast_S_S10000x10000 main_cst_2
  let main_v7 : FVec F S10000x10000 .f32 := subf main_v5 main_v6
  let main_v8 : FVec F S10000x10000 .f32 := Host.absf main_v7
  let main_cst_3 : FVec F S_ .f32 := constant S_ .f32 0x00000000#32
  let main_v9 : FVec F S128 .f32 := (fun x v => Host.reduceAdd x v reducesTo_S10000x128_S128_d0 h_S_) main_v1 main_cst_3
  let main_v10 : FVec F S1x128 .f32 := broadcastInDim S1x128 ![1] bcast_S128_S1x128_1 main_v9
  let main_cst_4 : FVec F S_ .f32 := constant S_ .f32 0x461C4000#32
  let main_v11 : FVec F S1x128 .f32 := broadcastInDim S1x128 ![] bcast_S_S1x128 main_cst_4
  let main_v12 : FVec F S1x128 .f32 := Host.divf main_v10 main_v11
  let main_v13 : FVec F S10000x128 .f32 := broadcastInDim S10000x128 ![0, 1] bcast_S1x128_S10000x128_0_1 main_v12
  let main_v14 : FVec F S10000x128 .f32 := subf main_v1 main_v13
  let main_v15 : FVec F S10000x128 .f32 := Host.absf main_v14
  let main_cst_5 : FVec F S_ .f32 := constant S_ .f32 0xFF800000#32
  let main_v16 : FVec F S128 .f32 := (fun x v => Host.reduce FloatOps.maximumf x v reducesTo_S10000x128_S128_d0 h_S_) main_v15 main_cst_5
  fn_part1 (F := F) main_arg1 main_v1 main_v8 main_v12 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S25x400x10000 : Shape := ⟨3, ![25, 400, 10000]⟩
abbrev S10000x1 : Shape := ⟨2, ![10000, 1]⟩
abbrev S1x128 : Shape := ⟨2, ![1, 128]⟩
abbrev S400x10000 : Shape := ⟨2, ![400, 10000]⟩
abbrev S1x400x10000 : Shape := ⟨3, ![1, 400, 10000]⟩
abbrev S400x1 : Shape := ⟨2, ![400, 1]⟩
abbrev S400x128 : Shape := ⟨2, ![400, 128]⟩
abbrev S400 : Shape := ⟨1, ![400]⟩

abbrev nBuf : Space → Nat
  | .hbm => 10
  | .vmem => 28
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S25x400x10000, .i8⟩
  | .hbm, ⟨5, _⟩ => ⟨S10000x1, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S1x400x10000, .i8⟩
  | .local _ .vmem, ⟨5, _⟩ => ⟨S1x400x10000, .i8⟩
  | .local _ .vmem, ⟨6, _⟩ => ⟨S400x1, .f32⟩
  | .local _ .vmem, ⟨7, _⟩ => ⟨S400x1, .f32⟩
  | .local _ .vmem, ⟨8, _⟩ => ⟨S400x128, .f32⟩
  | .local _ .vmem, ⟨9, _⟩ => ⟨S400x128, .f32⟩
  | .local _ .vmem, ⟨10, _⟩ => ⟨S400x128, .f32⟩
  | .local _ .vmem, ⟨11, _⟩ => ⟨S400x128, .f32⟩
  | .local _ .vmem, ⟨12, _⟩ => ⟨S10000x128, .f32⟩
  | .local _ .vmem, ⟨13, _⟩ => ⟨S1x400x10000, .i8⟩
  | .local _ .vmem, ⟨14, _⟩ => ⟨S1x400x10000, .i8⟩
  | .local _ .vmem, ⟨15, _⟩ => ⟨S10000x128, .f32⟩
  | .local _ .vmem, ⟨16, _⟩ => ⟨S400x128, .f32⟩
  | .local _ .vmem, ⟨17, _⟩ => ⟨S400x128, .f32⟩
  | .local _ .vmem, ⟨18, _⟩ => ⟨S400x1, .f32⟩
  | .local _ .vmem, ⟨19, _⟩ => ⟨S400x1, .f32⟩
  | .local _ .vmem, ⟨20, _⟩ => ⟨S1x128, .f32⟩
  | .local _ .vmem, ⟨21, _⟩ => ⟨S400x128, .f32⟩
  | .local _ .vmem, ⟨22, _⟩ => ⟨S400x128, .f32⟩
  | .local _ .vmem, ⟨23, _⟩ => ⟨S10000x128, .f32⟩
  | .local _ .vmem, ⟨24, _⟩ => ⟨S10000x128, .i8⟩
  | .local _ .vmem, ⟨25, _⟩ => ⟨S1x128, .f32⟩
  | .local _ .vmem, ⟨26, _⟩ => ⟨S1x128, .f32⟩
  | .local _ .vmem, ⟨27, _⟩ => ⟨S1x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0_0 : Ref sig .tc := ⟨.hbm, 4, rfl⟩
abbrev main_call0_v0_1 : Ref sig .tc := ⟨.hbm, 5, rfl⟩
abbrev main_call0_v0_2 : Ref sig .tc := ⟨.hbm, 6, rfl⟩
abbrev main_call0_v0_3 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc1_scratch3 : Ref sig .tc := ⟨.vmem, 26, rfl⟩
abbrev cc1_scratch4 : Ref sig .tc := ⟨.vmem, 27, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21

abbrev nD : Nat := 1
abbrev τ : Topo := Topo.v5e

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v21 : BitVec 32 := Scalar.muli arg0 c400_i32
  let v22 : Index := Scalar.indexCast v21
  let c0_14 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x400x10000 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 25], ![false, false]⟩

def k1_cond2 (i : grid1.Coords) : BitVec 1 :=
  let arg0 : BitVec 32 := BitVec.ofNat 32 (i 0).val
  let c0_i32_13 : BitVec 32 := 0#32
  let v21 : BitVec 1 := Scalar.cmpi .eq arg0 c0_i32_13
  let v22 : BitVec 32 := Scalar.extui v21
  let c0_i32_14 : BitVec 32 := 0#32
  let v23 : BitVec 1 := Scalar.cmpi .ne v22 c0_i32_14
  v23

def k1_off1 (i : grid1.Coords) : Fin 2 → Nat :=
  let arg1 : BitVec 32 := BitVec.ofNat 32 (i 1).val
  let c400_i32 : BitVec 32 := 400#32
  let v27 : BitVec 32 := Scalar.muli arg1 c400_i32
  let v28 : Index := Scalar.indexCast v27
  let c0_16 : Index := 0#32
  ![v28.toNat, 0]
def k1_cond3 (i : grid1.Coords) : BitVec 1 :=
  let arg0 : BitVec 32 := BitVec.ofNat 32 (i 0).val
  let c1_i32 : BitVec 32 := 1#32
  let v24 : BitVec 1 := Scalar.cmpi .eq arg0 c1_i32
  let v25 : BitVec 32 := Scalar.extui v24
  let c0_i32_15 : BitVec 32 := 0#32
  let v26 : BitVec 1 := Scalar.cmpi .ne v25 c0_i32_15
  v26

def k1_off2 (i : grid1.Coords) : Fin 2 → Nat :=
  let arg1 : BitVec 32 := BitVec.ofNat 32 (i 1).val
  let c400_i32 : BitVec 32 := 400#32
  let v29 : BitVec 32 := Scalar.muli arg1 c400_i32
  let v30 : Index := Scalar.indexCast v29
  let c0_18 : Index := 0#32
  ![v30.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 2 → Memref sig .tc .vmem S1x400x10000 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S400x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]
-- ==== KernelIdeal.lean ====
variable {F : FTy → Type} [FloatOps F] [Named F]
def κ : String → Option EReal := fun
  | "inv_127" => some ((1 / 127 : ℝ) : EReal)
  | "inv_255" => some ((1 / 255 : ℝ) : EReal)
  | "r128_255" => some ((128 / 255 : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩
abbrev S10000 : Shape := ⟨1, ![10000]⟩
abbrev S10000x1 : Shape := ⟨2, ![10000, 1]⟩

abbrev nBuf : Space → Nat
  | .hbm => 114
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S_, .f32⟩
  | .hbm, ⟨19, _⟩ => ⟨S1x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S10000x10000, .f32⟩
  | .hbm, ⟨31, _⟩ => ⟨S10000x10000, .f32⟩
  | .hbm, ⟨32, _⟩ => ⟨S10000x10000, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S10000x10000, .f32⟩
  | .hbm, ⟨37, _⟩ => ⟨S10000x10000, .f32⟩
  | .hbm, ⟨38, _⟩ => ⟨S_, .f32⟩
  | .hbm, ⟨39, _⟩ => ⟨S10000x10000, .f32⟩
  | .hbm, ⟨40, _⟩ => ⟨S10000x10000, .f32⟩
  | .hbm, ⟨41, _⟩ => ⟨S_, .f32⟩
  | .hbm, ⟨42, _⟩ => ⟨S10000x10000, .f32⟩
  | .hbm, ⟨43, _⟩ => ⟨S10000x10000, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S_, .f32⟩
  | .hbm, ⟨51, _⟩ => ⟨S10000, .f32⟩
  | .hbm, ⟨52, _⟩ => ⟨S10000x1, .f32⟩
  | .hbm, ⟨53, _⟩ => ⟨S10000x128, .f32⟩
  | .hbm, ⟨54, _⟩ => ⟨S10000x128, .f32⟩
  | .hbm, ⟨55, _⟩ => ⟨S10000x128, .f32⟩
  | .hbm, ⟨56, _⟩ => ⟨S10000x128, .f32⟩
  | .hbm, ⟨57, _⟩ => ⟨S_, .f32⟩
  | .hbm, ⟨58, _⟩ => ⟨S128, .f32⟩
  | .hbm, ⟨59, _⟩ => ⟨S1x128, .f32⟩
  | .hbm, ⟨60, _⟩ => ⟨S_, .f32⟩
  | .hbm, ⟨61, _⟩ => ⟨S1x128, .f32⟩
  | .hbm, ⟨62, _⟩ => ⟨S1x128, .f32⟩
  | .hbm, ⟨63, _⟩ => ⟨S10000x128, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S128, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S10000x128, .f32⟩
  | .hbm, ⟨73, _⟩ => ⟨S10000x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S10000x128, .f32⟩
  | .hbm, ⟨78, _⟩ => ⟨S10000x128, .f32⟩
  | .hbm, ⟨79, _⟩ => ⟨S10000x128, .f32⟩
  | .hbm, ⟨80, _⟩ => ⟨S_, .f32⟩
  | .hbm, ⟨81, _⟩ => ⟨S10000x10000, .f32⟩
  | .hbm, ⟨82, _⟩ => ⟨S10000x10000, .f32⟩
  | .hbm, ⟨83, _⟩ => ⟨S10000x10000, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S10000x10000, .f32⟩
  | .hbm, ⟨88, _⟩ => ⟨S10000x10000, .f32⟩
  | .hbm, ⟨89, _⟩ => ⟨S_, .f32⟩
  | .hbm, ⟨90, _⟩ => ⟨S10000x10000, .f32⟩
  | .hbm, ⟨91, _⟩ => ⟨S10000x10000, .f32⟩
  | .hbm, ⟨92, _⟩ => ⟨S_, .f32⟩
  | .hbm, ⟨93, _⟩ => ⟨S10000x10000, .f32⟩
  | .hbm, ⟨94, _⟩ => ⟨S10000x10000, .f32⟩
  | .hbm, ⟨95, _⟩ => ⟨S_, .f32⟩
  | .hbm, ⟨96, _⟩ => ⟨S1x128, .f32⟩
  | .hbm, ⟨97, _⟩ => ⟨S1x128, .f32⟩
  | .hbm, ⟨98, _⟩ => ⟨S10000x128, .f32⟩
  | .hbm, ⟨99, _⟩ => ⟨S10000x128, .f32⟩
  | .hbm, ⟨100, _⟩ => ⟨S10000x128, .f32⟩
  | .hbm, ⟨101, _⟩ => ⟨S_, .f32⟩
  | .hbm, ⟨102, _⟩ => ⟨S10000, .f32⟩
  | .hbm, ⟨103, _⟩ => ⟨S10000x1, .f32⟩
  | .hbm, ⟨104, _⟩ => ⟨S10000x128, .f32⟩
  | .hbm, ⟨105, _⟩ => ⟨S10000x128, .f32⟩
  | .hbm, ⟨106, _⟩ => ⟨S10000x128, .f32⟩
  | .hbm, ⟨107, _⟩ => ⟨S10000x128, .f32⟩
  | .hbm, ⟨108, _⟩ => ⟨S10000x128, .f32⟩
  | .hbm, ⟨109, _⟩ => ⟨S10000x128, .f32⟩
  | .hbm, ⟨110, _⟩ => ⟨S10000x128, .f32⟩
  | .hbm, ⟨111, _⟩ => ⟨S1x128, .f32⟩
  | .hbm, ⟨112, _⟩ => ⟨S10000x128, .f32⟩
  | .hbm, ⟨113, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_cst_6 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_cst_13 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_14 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_15 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_16 : Ref sig .tc := ⟨.hbm, 84, rfl⟩
abbrev main_cst_17 : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_call5_v3 : Ref sig .tc := ⟨.hbm, 89, rfl⟩
abbrev main_call5_v4 : Ref sig .tc := ⟨.hbm, 90, rfl⟩
abbrev main_v58 : Ref sig .tc := ⟨.hbm, 91, rfl⟩
abbrev main_cst_18 : Ref sig .tc := ⟨.hbm, 92, rfl⟩
abbrev main_v59 : Ref sig .tc := ⟨.hbm, 93, rfl⟩
abbrev main_v60 : Ref sig .tc := ⟨.hbm, 94, rfl⟩
abbrev main_cst_19 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_20 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩

abbrev nD : Nat := 1
abbrev τ : Topo := Topo.v5e

variable {F : FTy → Type} [FloatOps F]
-- ==== Proof.Body0.lean ====
/-
  The body of the first grid call, run once on any whole memrefs.

  The call keeps a buffer of 10000×128 (the product of the first two arguments) across its 25 points: the first point
  fills it, the later ones read it.  Each point stores four results off its 400 rows of the second argument.
-/
module

public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's branch, from the grid coordinate. -/
abbrev isFirst0 (i : grid0.Coords) : Prop := (Scalar.cmpi .ne (Scalar.extui (Scalar.cmpi .eq (BitVec.ofNat 32 (i 0).val) 0#32)) 0#32) = 1#1

/-- 400 consecutive rows of a 10000-row buffer, from the offsets given. -/
abbrev rowsAt (S : Vec F S10000x128 .f32) (off : Fin 2 → ℕ) (h : ∀ a, off a + S400x128.size a ≤ S10000x128.size a) : Vec F S400x128 .f32 :=
  VecWindow.window S off S400x128.size h

/-- The fourth result at coordinate `i`: the block's product with the kept buffer, plus the block's own rows of that buffer. -/
def res0 (i : grid0.Coords) (b : Vec F S400x10000 .f32) (S : Vec F S10000x128 .f32) : FVec F S400x128 .f32 :=
  k0_pay5 b S (rowsAt S (k0_off1 i) (k0_off1_inb i))

set_option maxHeartbeats 1000000 in
/-- The body at the first point: the kept buffer, at anything before, is filled with the product of the first two
    arguments, and the four results are those of the block `b` against it. -/
theorem run0_first (c : Dev nD) (i : grid0.Coords) (hc : isFirst0 i)
    (a1 : Memref sig .tc .vmem S10000x128 .f32) (h1 : a1.IsWhole) (a2 : Memref sig .tc .vmem S128x128 .f32) (h2 : a2.IsWhole)
    (a3 : Memref sig .tc .vmem S400x10000 .f32) (h3 : a3.IsWhole) (a4 : Memref sig .tc .vmem S1x400x10000 .i8) (h4 : a4.IsWhole)
    (a5 : Memref sig .tc .vmem S400x1 .f32) (h5 : a5.IsWhole) (a6 : Memref sig .tc .vmem S400x128 .f32) (h6 : a6.IsWhole)
    (a7 : Memref sig .tc .vmem S400x128 .f32) (h7 : a7.IsWhole) (a8 : Memref sig .tc .vmem S10000x128 .f32) (h8 : a8.IsWhole)
    (x : Vec F S10000x128 .f32) (w : Vec F S128x128 .f32) (b : Vec F S400x10000 .f32) (E : Set ℕ) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d) ∗ (∃ d, owns (c : Thread nD τ) a5 fullShare d)
        ∗ (∃ d, owns (c : Thread nD τ) a6 fullShare d) ∗ (∃ d, owns (c : Thread nD τ) a7 fullShare d)
        ∗ (∃ d, owns (c : Thread nD τ) a8 fullShare d)
        ∗ (iprop(owns (c : Thread nD τ) a1 fullShare x ∗ owns (c : Thread nD τ) a2 fullShare w ∗ owns (c : Thread nD τ) a3 fullShare b
            ∗ owns (c : Thread nD τ) a4 fullShare (k0_pay2 b) ∗ owns (c : Thread nD τ) a5 fullShare (k0_pay3 b)
            ∗ owns (c : Thread nD τ) a6 fullShare (k0_pay4 b (k0_pay1 x w)) ∗ owns (c : Thread nD τ) a7 fullShare (res0 i b (k0_pay1 x w))
            ∗ owns (c : Thread nD τ) a8 fullShare (k0_pay1 x w)) -∗ K ⟨⟩))
      ⊢ wp frame (wpE (defs₀ (F := F)) Variants.none c none) E (cc0__pass1_kernel i a1 h1 a2 h2 a3 h3 a4 h4 a5 h5 a6 h6 a7 h7 a8 h8) K := by
  simp only [cc0__pass1_kernel_eq_skeleton]; unfold cc0__pass1_kernel_skel
  unfold owns
  iintro ⟨⟨%f1, %e1, H1⟩, ⟨%f2, %e2, H2⟩, ⟨%f3, %e3, H3⟩, ⟨%d4, %f4, -, H4⟩, ⟨%d5, %f5, -, H5⟩, ⟨%d6, %f6, -, H6⟩, ⟨%d7, %f7, -, H7⟩, ⟨%d8, %f8, -, H8⟩, Hk⟩
  obtain rfl := h1.eq_unread e1; obtain rfl := h2.eq_unread e2; obtain rfl := h3.eq_unread e3
  sl_exec (disch := first | exact hc)
  sl_step
  iapply Hk
  have e8 : a8.view.read (Elt F) (a8.view.writes (Elt F) a8.view.junk (run0_first.sl.H8_1 c a1 h1 a2 h2 x w)) = k0_pay1 x w := by
    unfold run0_first.sl.H8_1
    rw [View.read_writes_full, View.readAt_full, View.readAt_full, h1.read_unread, h2.read_unread]
  have e16 : run0_first.sl.v16 c a1 h1 a2 h2 a8 x w = k0_pay1 x w := by
    unfold run0_first.sl.v16
    exact (View.readAt_full _ _ _).trans e8
  have e23 : run0_first.sl.v23 c i a1 h1 a2 h2 a8 x w = rowsAt (k0_pay1 x w) (k0_off1 i) (k0_off1_inb i) := by
    unfold run0_first.sl.v23
    exact (View.readAt_unit _ _ _ rfl _).trans (by rw [e8])
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; rw [View.read_writes_full, View.readAt_full, h3.read_unread]
  isplitl [H5]
  · iexists _; isplitr; swap; · iexact H5
    ipureintro; rw [View.read_writes_full, View.readAt_full, h3.read_unread]
  isplitl [H6]
  · iexists _; isplitr; swap; · iexact H6
    ipureintro; rw [View.read_writes_full, View.readAt_full, h3.read_unread, e16]
  isplitl [H7]
  · iexists _; isplitr; swap; · iexact H7
    ipureintro; rw [View.read_writes_full, View.readAt_full, h3.read_unread, e16, e23]; rfl
  iexists _; isplitr; swap; · iexact H8
  ipureintro; exact e8

set_option maxHeartbeats 1000000 in
/-- The body at a later point: the kept buffer holds `S` before and after, and the four results are those of the block
    `b` against it. -/
theorem run0_later (c : Dev nD) (i : grid0.Coords) (hc : ¬ isFirst0 i)
    (a1 : Memref sig .tc .vmem S10000x128 .f32) (h1 : a1.IsWhole) (a2 : Memref sig .tc .vmem S128x128 .f32) (h2 : a2.IsWhole)
    (a3 : Memref sig .tc .vmem S400x10000 .f32) (h3 : a3.IsWhole) (a4 : Memref sig .tc .vmem S1x400x10000 .i8) (h4 : a4.IsWhole)
    (a5 : Memref sig .tc .vmem S400x1 .f32) (h5 : a5.IsWhole) (a6 : Memref sig .tc .vmem S400x128 .f32) (h6 : a6.IsWhole)
    (a7 : Memref sig .tc .vmem S400x128 .f32) (h7 : a7.IsWhole) (a8 : Memref sig .tc .vmem S10000x128 .f32) (h8 : a8.IsWhole)
    (x : Vec F S10000x128 .f32) (w : Vec F S128x128 .f32) (b : Vec F S400x10000 .f32) (S : Vec F S10000x128 .f32) (E : Set ℕ) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d) ∗ (∃ d, owns (c : Thread nD τ) a5 fullShare d)
        ∗ (∃ d, owns (c : Thread nD τ) a6 fullShare d) ∗ (∃ d, owns (c : Thread nD τ) a7 fullShare d)
        ∗ owns (c : Thread nD τ) a8 fullShare S
        ∗ (iprop(owns (c : Thread nD τ) a1 fullShare x ∗ owns (c : Thread nD τ) a2 fullShare w ∗ owns (c : Thread nD τ) a3 fullShare b
            ∗ owns (c : Thread nD τ) a4 fullShare (k0_pay2 b) ∗ owns (c : Thread nD τ) a5 fullShare (k0_pay3 b)
            ∗ owns (c : Thread nD τ) a6 fullShare (k0_pay4 b S) ∗ owns (c : Thread nD τ) a7 fullShare (res0 i b S)
            ∗ owns (c : Thread nD τ) a8 fullShare S) -∗ K ⟨⟩))
      ⊢ wp frame (wpE (defs₀ (F := F)) Variants.none c none) E (cc0__pass1_kernel i a1 h1 a2 h2 a3 h3 a4 h4 a5 h5 a6 h6 a7 h7 a8 h8) K := by
  simp only [cc0__pass1_kernel_eq_skeleton]; unfold cc0__pass1_kernel_skel
  unfold owns
  iintro ⟨⟨%f1, %e1, H1⟩, ⟨%f2, %e2, H2⟩, ⟨%f3, %e3, H3⟩, ⟨%d4, %f4, -, H4⟩, ⟨%d5, %f5, -, H5⟩, ⟨%d6, %f6, -, H6⟩, ⟨%d7, %f7, -, H7⟩, ⟨%f8, %e8, H8⟩, Hk⟩
  obtain rfl := h1.eq_unread e1; obtain rfl := h2.eq_unread e2; obtain rfl := h3.eq_unread e3; obtain rfl := h8.eq_unread e8
  sl_exec (disch := first | exact hc)
  sl_step
  iapply Hk
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; rw [View.read_writes_full, View.readAt_full, h3.read_unread]
  isplitl [H5]
  · iexists _; isplitr; swap; · iexact H5
    ipureintro; rw [View.read_writes_full, View.readAt_full, h3.read_unread]
  isplitl [H6]
  · iexists _; isplitr; swap; · iexact H6
    ipureintro; rw [View.read_writes_full, View.readAt_full, h3.read_unread, View.readAt_full, h8.read_unread]
  isplitl [H7]
  · iexists _; isplitr; swap; · iexact H7
    ipureintro; rw [View.read_writes_full, View.readAt_full, h3.read_unread, View.readAt_full, h8.read_unread, View.readAt_unit _ _ _ rfl (k0_off1_inb i), h8.read_unread]; rfl
  iexists _; isplitr; swap; · iexact H8
  ipureintro; exact h8.read_unread _

end Cert.KernelIdeal.Hand

end
-- ==== Proof.Body1.lean ====
/-
  The body of the second grid call, run once on any whole memrefs.

  The call keeps five buffers across its 50 points (two passes over 25 blocks of 400 rows): the 10000×128 array the first
  pass writes and the second reads, and, set up at the first point of each pass, the 8-bit codes of the array being
  multiplied and the three rows a product is put back into place with.  A point of the first pass stores its 400 rows
  into the kept array and into the result; a point of the second stores the sum of the terms into the result.
-/
module

public import proofs.«01_k».proof.Proof.Body0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the branch that sets a pass up, from the grid coordinate. -/
abbrev isFirst1 (i : grid1.Coords) : Prop := (Scalar.cmpi .ne (Scalar.extui (Scalar.cmpi .eq (BitVec.ofNat 32 (i 1).val) 0#32)) 0#32) = 1#1

/-- What a pass keeps besides the array: the codes, the scale row, the offset row and the row of column means. -/
structure Kept (F : FTy → Type) where
  /-- the codes -/
  s8 : Vec F S10000x128 .i8
  /-- the scale row -/
  u : Vec F S1x128 .f32
  /-- the offset row -/
  v : Vec F S1x128 .f32
  /-- the column means -/
  m : Vec F S1x128 .f32

/-- What the first point of a pass sets up, from the staged array and the kept one (the pass picks between the two). -/
def setUp (i : grid1.Coords) (s : Vec F S10000x128 .f32) (Y : Vec F S10000x128 .f32) : Kept F where
  s8 := k1_pay12 (BitVec.ofNat 32 (i 0).val) s Y
  u := k1_pay13 (BitVec.ofNat 32 (i 0).val) s Y
  v := k1_pay1 (k1_pay14 (BitVec.ofNat 32 (i 0).val) s Y)
  m := k1_pay2 (k1_pay7 (BitVec.ofNat 32 (i 0).val) s Y)

/-- A block's 400 rows of the product, off what the pass keeps. -/
def rows1 (q : Vec F S1x400x10000 .i8) (r : Vec F S400x1 .f32) (k : Kept F) : FVec F S400x128 .f32 :=
  k1_pay3 q k.s8 k.u k.v r k.m

/-- The kept array after a point of the first pass: the point's rows put in place. -/
def putRows (i : grid1.Coords) (Y : Vec F S10000x128 .f32) (q : Vec F S1x400x10000 .i8) (r : Vec F S400x1 .f32) (k : Kept F) : Vec F S10000x128 .f32 :=
  VecWindow.put Y (k1_off1 i) S400x128.size (k1_pay4 q k.s8 k.u k.v r k.m)

/-- The result of a point of the second pass. -/
def last1 (i : grid1.Coords) (h : k1_cond3 i = 1#1) (Y : Vec F S10000x128 .f32) (q : Vec F S1x400x10000 .i8) (p : Vec F S400x128 .f32) (r : Vec F S400x1 .f32)
    (b : Vec F S1x128 .f32) (k : Kept F) : FVec F S400x128 .f32 :=
  k1_pay5 q k.s8 k.u k.v r k.m p (rowsAt Y (k1_off2 i) (k1_off2_inb i h)) b

set_option maxHeartbeats 2000000 in
/-- The body at the first point of the first pass. -/
theorem run1_first_a (c : Dev nD) (i : grid1.Coords) (hc : isFirst1 i) (hA : k1_cond2 i = 1#1) (hB : ¬ k1_cond3 i = 1#1)
    (a2 : Memref sig .tc .vmem S1x400x10000 .i8) (h2 : a2.IsWhole) (a3 : Memref sig .tc .vmem S10000x128 .f32) (h3 : a3.IsWhole)
    (a4 : Memref sig .tc .vmem S400x128 .f32) (h4 : a4.IsWhole) (a5 : Memref sig .tc .vmem S400x1 .f32) (h5 : a5.IsWhole)
    (a6 : Memref sig .tc .vmem S1x128 .f32) (h6 : a6.IsWhole) (a7 : Memref sig .tc .vmem S400x128 .f32) (h7 : a7.IsWhole)
    (a8 : Memref sig .tc .vmem S10000x128 .f32) (h8 : a8.IsWhole) (a9 : Memref sig .tc .vmem S10000x128 .i8) (h9 : a9.IsWhole)
    (a10 : Memref sig .tc .vmem S1x128 .f32) (h10 : a10.IsWhole) (a11 : Memref sig .tc .vmem S1x128 .f32) (h11 : a11.IsWhole)
    (a12 : Memref sig .tc .vmem S1x128 .f32) (h12 : a12.IsWhole)
    (q : Vec F S1x400x10000 .i8) (s : Vec F S10000x128 .f32) (p : Vec F S400x128 .f32) (r : Vec F S400x1 .f32) (b : Vec F S1x128 .f32)
    (Y : Vec F S10000x128 .f32) (E : Set ℕ) (K : PUnit → sProp 𝕄) :
    iprop(owns (c : Thread nD τ) a2 fullShare q ∗ owns (c : Thread nD τ) a3 fullShare s ∗ owns (c : Thread nD τ) a4 fullShare p ∗ owns (c : Thread nD τ) a5 fullShare r ∗ owns (c : Thread nD τ) a6 fullShare b
        ∗ (∃ d, owns (c : Thread nD τ) a7 fullShare d) ∗ owns (c : Thread nD τ) a8 fullShare Y
        ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
        ∗ (iprop(owns (c : Thread nD τ) a2 fullShare q ∗ owns (c : Thread nD τ) a3 fullShare s ∗ owns (c : Thread nD τ) a4 fullShare p ∗ owns (c : Thread nD τ) a5 fullShare r ∗ owns (c : Thread nD τ) a6 fullShare b
            ∗ owns (c : Thread nD τ) a7 fullShare (rows1 q r (setUp i s Y)) ∗ owns (c : Thread nD τ) a8 fullShare (putRows i Y q r (setUp i s Y))
            ∗ owns (c : Thread nD τ) a9 fullShare (setUp i s Y).s8 ∗ owns (c : Thread nD τ) a10 fullShare (setUp i s Y).u ∗ owns (c : Thread nD τ) a11 fullShare (setUp i s Y).v ∗ owns (c : Thread nD τ) a12 fullShare (setUp i s Y).m) -∗ K ⟨⟩))
      ⊢ wp frame (wpE (defs₀ (F := F)) Variants.none c none) E (cc1__pass23_kernel i a2 h2 a3 h3 a4 h4 a5 h5 a6 h6 a7 h7 a8 h8 a9 h9 a10 h10 a11 h11 a12 h12) K := by
  simp only [cc1__pass23_kernel_eq_skeleton]; unfold cc1__pass23_kernel_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%f8, %e8, H8⟩, ⟨%d9, %f9, -, H9⟩, ⟨%d10, %f10, -, H10⟩, ⟨%d11, %f11, -, H11⟩, ⟨%d12, %f12, -, H12⟩, Hk⟩
  obtain rfl := h2.eq_unread e2; obtain rfl := h3.eq_unread e3; obtain rfl := h4.eq_unread e4; obtain rfl := h5.eq_unread e5; obtain rfl := h6.eq_unread e6
  obtain rfl := h8.eq_unread e8
  sl_exec (disch := first | exact hc | exact hA | exact hB)
  sl_step
  iapply Hk
  have e9 : ∀ g, a9.view.read (Elt F) (a9.view.writes (Elt F) g (run1_first_a.sl.H9_1 c i a3 h3 a8 h8 s Y)) = (setUp i s Y).s8 := fun g => by
    unfold run1_first_a.sl.H9_1
    rw [View.read_writes_full]; rw [View.readAt_full, View.readAt_full, h3.read_unread, h8.read_unread]; rfl
  have k9 : run1_first_a.sl.v5 c i a3 h3 a8 h8 a9 s Y = (setUp i s Y).s8 := by
    unfold run1_first_a.sl.v5
    exact (View.readAt_full _ _ _).trans (e9 _)
  have e10 : ∀ g, a10.view.read (Elt F) (a10.view.writes (Elt F) g (run1_first_a.sl.H10_1 c i a3 h3 a8 h8 s Y)) = (setUp i s Y).u := fun g => by
    unfold run1_first_a.sl.H10_1
    rw [View.read_writes_full]; rw [View.readAt_full, View.readAt_full, h3.read_unread, h8.read_unread]; rfl
  have k10 : run1_first_a.sl.v8 c i a3 h3 a8 h8 a10 s Y = (setUp i s Y).u := by
    unfold run1_first_a.sl.v8
    exact (View.readAt_full _ _ _).trans (e10 _)
  have e11 : ∀ g, a11.view.read (Elt F) (a11.view.writes (Elt F) g (run1_first_a.sl.H11_1 c i a3 h3 a8 h8 s Y)) = (setUp i s Y).v := fun g => by
    unfold run1_first_a.sl.H11_1
    rw [View.read_writes_full]; unfold run1_first_a.sl.r_1; rw [View.readAt_full, View.readAt_full, h3.read_unread, h8.read_unread]; rfl
  have k11 : run1_first_a.sl.v11 c i a3 h3 a8 h8 a11 s Y = (setUp i s Y).v := by
    unfold run1_first_a.sl.v11
    exact (View.readAt_full _ _ _).trans (e11 _)
  have e12 : ∀ g, a12.view.read (Elt F) (a12.view.writes (Elt F) g (run1_first_a.sl.H12_1 c i a3 h3 a8 h8 s Y)) = (setUp i s Y).m := fun g => by
    unfold run1_first_a.sl.H12_1
    rw [View.read_writes_full]; unfold run1_first_a.sl.r; rw [View.readAt_full, View.readAt_full, h3.read_unread, h8.read_unread]; rfl
  have k12 : run1_first_a.sl.v16 c i a3 h3 a8 h8 a12 s Y = (setUp i s Y).m := by
    unfold run1_first_a.sl.v16
    exact (View.readAt_full _ _ _).trans (e12 _)
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; rw [View.read_writes_full, k9, k10, k11, k12, View.readAt_full, View.readAt_full, h2.read_unread, h5.read_unread]; rfl
  isplitl [H8]
  · iexists _; isplitr; swap; · iexact H8
    ipureintro; rw [View.read_writes_cons_put _ _ _ _ _ rfl, View.writes_nil, h8.read_unread, k9, k10, k11, k12, View.readAt_full, View.readAt_full, h2.read_unread, h5.read_unread]; rfl
  isplitl [H9]
  · iexists _; isplitr; swap; · iexact H9
    ipureintro; exact e9 _
  isplitl [H10]
  · iexists _; isplitr; swap; · iexact H10
    ipureintro; exact e10 _
  isplitl [H11]
  · iexists _; isplitr; swap; · iexact H11
    ipureintro; exact e11 _
  iexists _; isplitr; swap; · iexact H12
  ipureintro; exact e12 _

set_option maxHeartbeats 2000000 in
/-- The body at a later point of the first pass. -/
theorem run1_later_a (c : Dev nD) (i : grid1.Coords) (hc : ¬ isFirst1 i) (hA : k1_cond2 i = 1#1) (hB : ¬ k1_cond3 i = 1#1)
    (a2 : Memref sig .tc .vmem S1x400x10000 .i8) (h2 : a2.IsWhole) (a3 : Memref sig .tc .vmem S10000x128 .f32) (h3 : a3.IsWhole)
    (a4 : Memref sig .tc .vmem S400x128 .f32) (h4 : a4.IsWhole) (a5 : Memref sig .tc .vmem S400x1 .f32) (h5 : a5.IsWhole)
    (a6 : Memref sig .tc .vmem S1x128 .f32) (h6 : a6.IsWhole) (a7 : Memref sig .tc .vmem S400x128 .f32) (h7 : a7.IsWhole)
    (a8 : Memref sig .tc .vmem S10000x128 .f32) (h8 : a8.IsWhole) (a9 : Memref sig .tc .vmem S10000x128 .i8) (h9 : a9.IsWhole)
    (a10 : Memref sig .tc .vmem S1x128 .f32) (h10 : a10.IsWhole) (a11 : Memref sig .tc .vmem S1x128 .f32) (h11 : a11.IsWhole)
    (a12 : Memref sig .tc .vmem S1x128 .f32) (h12 : a12.IsWhole)
    (q : Vec F S1x400x10000 .i8) (s : Vec F S10000x128 .f32) (p : Vec F S400x128 .f32) (r : Vec F S400x1 .f32) (b : Vec F S1x128 .f32)
    (Y : Vec F S10000x128 .f32) (k : Kept F) (E : Set ℕ) (K : PUnit → sProp 𝕄) :
    iprop(owns (c : Thread nD τ) a2 fullShare q ∗ owns (c : Thread nD τ) a3 fullShare s ∗ owns (c : Thread nD τ) a4 fullShare p ∗ owns (c : Thread nD τ) a5 fullShare r ∗ owns (c : Thread nD τ) a6 fullShare b
        ∗ (∃ d, owns (c : Thread nD τ) a7 fullShare d) ∗ owns (c : Thread nD τ) a8 fullShare Y
        ∗ owns (c : Thread nD τ) a9 fullShare k.s8 ∗ owns (c : Thread nD τ) a10 fullShare k.u ∗ owns (c : Thread nD τ) a11 fullShare k.v ∗ owns (c : Thread nD τ) a12 fullShare k.m
        ∗ (iprop(owns (c : Thread nD τ) a2 fullShare q ∗ owns (c : Thread nD τ) a3 fullShare s ∗ owns (c : Thread nD τ) a4 fullShare p ∗ owns (c : Thread nD τ) a5 fullShare r ∗ owns (c : Thread nD τ) a6 fullShare b
            ∗ owns (c : Thread nD τ) a7 fullShare (rows1 q r k) ∗ owns (c : Thread nD τ) a8 fullShare (putRows i Y q r k)
            ∗ owns (c : Thread nD τ) a9 fullShare k.s8 ∗ owns (c : Thread nD τ) a10 fullShare k.u ∗ owns (c : Thread nD τ) a11 fullShare k.v ∗ owns (c : Thread nD τ) a12 fullShare k.m) -∗ K ⟨⟩))
      ⊢ wp frame (wpE (defs₀ (F := F)) Variants.none c none) E (cc1__pass23_kernel i a2 h2 a3 h3 a4 h4 a5 h5 a6 h6 a7 h7 a8 h8 a9 h9 a10 h10 a11 h11 a12 h12) K := by
  simp only [cc1__pass23_kernel_eq_skeleton]; unfold cc1__pass23_kernel_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%f8, %e8, H8⟩, ⟨%f9, %e9, H9⟩, ⟨%f10, %e10, H10⟩, ⟨%f11, %e11, H11⟩, ⟨%f12, %e12, H12⟩, Hk⟩
  obtain rfl := h2.eq_unread e2; obtain rfl := h3.eq_unread e3; obtain rfl := h4.eq_unread e4; obtain rfl := h5.eq_unread e5; obtain rfl := h6.eq_unread e6
  obtain rfl := h8.eq_unread e8; obtain rfl := h9.eq_unread e9; obtain rfl := h10.eq_unread e10; obtain rfl := h11.eq_unread e11; obtain rfl := h12.eq_unread e12
  sl_exec (disch := first | exact hc | exact hA | exact hB)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; rw [View.read_writes_full, View.readAt_full, View.readAt_full, View.readAt_full, View.readAt_full, View.readAt_full, View.readAt_full, h2.read_unread, h5.read_unread, h9.read_unread, h10.read_unread, h11.read_unread, h12.read_unread]; rfl
  isplitl [H8]
  · iexists _; isplitr; swap; · iexact H8
    ipureintro; rw [View.read_writes_cons_put _ _ _ _ _ rfl, View.writes_nil, h8.read_unread, View.readAt_full, View.readAt_full, View.readAt_full, View.readAt_full, View.readAt_full, View.readAt_full, h2.read_unread, h5.read_unread, h9.read_unread, h10.read_unread, h11.read_unread, h12.read_unread]; rfl
  isplitl [H9]
  · iexists _; isplitr; swap; · iexact H9
    ipureintro; exact h9.read_unread _
  isplitl [H10]
  · iexists _; isplitr; swap; · iexact H10
    ipureintro; exact h10.read_unread _
  isplitl [H11]
  · iexists _; isplitr; swap; · iexact H11
    ipureintro; exact h11.read_unread _
  iexists _; isplitr; swap; · iexact H12
  ipureintro; exact h12.read_unread _

set_option maxHeartbeats 2000000 in
/-- The body at the first point of the second pass. -/
theorem run1_first_b (c : Dev nD) (i : grid1.Coords) (hc : isFirst1 i) (hA : ¬ k1_cond2 i = 1#1) (hB : k1_cond3 i = 1#1)
    (a2 : Memref sig .tc .vmem S1x400x10000 .i8) (h2 : a2.IsWhole) (a3 : Memref sig .tc .vmem S10000x128 .f32) (h3 : a3.IsWhole)
    (a4 : Memref sig .tc .vmem S400x128 .f32) (h4 : a4.IsWhole) (a5 : Memref sig .tc .vmem S400x1 .f32) (h5 : a5.IsWhole)
    (a6 : Memref sig .tc .vmem S1x128 .f32) (h6 : a6.IsWhole) (a7 : Memref sig .tc .vmem S400x128 .f32) (h7 : a7.IsWhole)
    (a8 : Memref sig .tc .vmem S10000x128 .f32) (h8 : a8.IsWhole) (a9 : Memref sig .tc .vmem S10000x128 .i8) (h9 : a9.IsWhole)
    (a10 : Memref sig .tc .vmem S1x128 .f32) (h10 : a10.IsWhole) (a11 : Memref sig .tc .vmem S1x128 .f32) (h11 : a11.IsWhole)
    (a12 : Memref sig .tc .vmem S1x128 .f32) (h12 : a12.IsWhole)
    (q : Vec F S1x400x10000 .i8) (s : Vec F S10000x128 .f32) (p : Vec F S400x128 .f32) (r : Vec F S400x1 .f32) (b : Vec F S1x128 .f32)
    (Y : Vec F S10000x128 .f32) (E : Set ℕ) (K : PUnit → sProp 𝕄) :
    iprop(owns (c : Thread nD τ) a2 fullShare q ∗ owns (c : Thread nD τ) a3 fullShare s ∗ owns (c : Thread nD τ) a4 fullShare p ∗ owns (c : Thread nD τ) a5 fullShare r ∗ owns (c : Thread nD τ) a6 fullShare b
        ∗ (∃ d, owns (c : Thread nD τ) a7 fullShare d) ∗ owns (c : Thread nD τ) a8 fullShare Y
        ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
        ∗ (iprop(owns (c : Thread nD τ) a2 fullShare q ∗ owns (c : Thread nD τ) a3 fullShare s ∗ owns (c : Thread nD τ) a4 fullShare p ∗ owns (c : Thread nD τ) a5 fullShare r ∗ owns (c : Thread nD τ) a6 fullShare b
            ∗ owns (c : Thread nD τ) a7 fullShare (last1 i hB Y q p r b (setUp i s Y)) ∗ owns (c : Thread nD τ) a8 fullShare Y
            ∗ owns (c : Thread nD τ) a9 fullShare (setUp i s Y).s8 ∗ owns (c : Thread nD τ) a10 fullShare (setUp i s Y).u ∗ owns (c : Thread nD τ) a11 fullShare (setUp i s Y).v ∗ owns (c : Thread nD τ) a12 fullShare (setUp i s Y).m) -∗ K ⟨⟩))
      ⊢ wp frame (wpE (defs₀ (F := F)) Variants.none c none) E (cc1__pass23_kernel i a2 h2 a3 h3 a4 h4 a5 h5 a6 h6 a7 h7 a8 h8 a9 h9 a10 h10 a11 h11 a12 h12) K := by
  simp only [cc1__pass23_kernel_eq_skeleton]; unfold cc1__pass23_kernel_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%f8, %e8, H8⟩, ⟨%d9, %f9, -, H9⟩, ⟨%d10, %f10, -, H10⟩, ⟨%d11, %f11, -, H11⟩, ⟨%d12, %f12, -, H12⟩, Hk⟩
  obtain rfl := h2.eq_unread e2; obtain rfl := h3.eq_unread e3; obtain rfl := h4.eq_unread e4; obtain rfl := h5.eq_unread e5; obtain rfl := h6.eq_unread e6
  obtain rfl := h8.eq_unread e8
  sl_exec (disch := first | exact hc | exact hA | exact hB)
  sl_step
  iapply Hk
  have e9 : ∀ g, a9.view.read (Elt F) (a9.view.writes (Elt F) g (run1_first_b.sl.H9_1 c i a3 h3 a8 h8 s Y)) = (setUp i s Y).s8 := fun g => by
    unfold run1_first_b.sl.H9_1
    rw [View.read_writes_full]; rw [View.readAt_full, View.readAt_full, h3.read_unread, h8.read_unread]; rfl
  have k9 : run1_first_b.sl.v5 c i a3 h3 a8 h8 a9 s Y = (setUp i s Y).s8 := by
    unfold run1_first_b.sl.v5
    exact (View.readAt_full _ _ _).trans (e9 _)
  have e10 : ∀ g, a10.view.read (Elt F) (a10.view.writes (Elt F) g (run1_first_b.sl.H10_1 c i a3 h3 a8 h8 s Y)) = (setUp i s Y).u := fun g => by
    unfold run1_first_b.sl.H10_1
    rw [View.read_writes_full]; rw [View.readAt_full, View.readAt_full, h3.read_unread, h8.read_unread]; rfl
  have k10 : run1_first_b.sl.v8 c i a3 h3 a8 h8 a10 s Y = (setUp i s Y).u := by
    unfold run1_first_b.sl.v8
    exact (View.readAt_full _ _ _).trans (e10 _)
  have e11 : ∀ g, a11.view.read (Elt F) (a11.view.writes (Elt F) g (run1_first_b.sl.H11_1 c i a3 h3 a8 h8 s Y)) = (setUp i s Y).v := fun g => by
    unfold run1_first_b.sl.H11_1
    rw [View.read_writes_full]; unfold run1_first_b.sl.r_1; rw [View.readAt_full, View.readAt_full, h3.read_unread, h8.read_unread]; rfl
  have k11 : run1_first_b.sl.v11 c i a3 h3 a8 h8 a11 s Y = (setUp i s Y).v := by
    unfold run1_first_b.sl.v11
    exact (View.readAt_full _ _ _).trans (e11 _)
  have e12 : ∀ g, a12.view.read (Elt F) (a12.view.writes (Elt F) g (run1_first_b.sl.H12_1 c i a3 h3 a8 h8 s Y)) = (setUp i s Y).m := fun g => by
    unfold run1_first_b.sl.H12_1
    rw [View.read_writes_full]; unfold run1_first_b.sl.r; rw [View.readAt_full, View.readAt_full, h3.read_unread, h8.read_unread]; rfl
  have k12 : run1_first_b.sl.v16 c i a3 h3 a8 h8 a12 s Y = (setUp i s Y).m := by
    unfold run1_first_b.sl.v16
    exact (View.readAt_full _ _ _).trans (e12 _)
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; rw [View.read_writes_full, View.readAt_unit a8.view _ _ rfl (k1_off2_inb i hB), k9, k10, k11, k12, View.readAt_full, View.readAt_full, h2.read_unread, h5.read_unread, View.readAt_full, View.readAt_full, h4.read_unread, h6.read_unread, h8.read_unread]; rfl
  isplitl [H8]
  · iexists _; isplitr; swap; · iexact H8
    ipureintro; exact h8.read_unread _
  isplitl [H9]
  · iexists _; isplitr; swap; · iexact H9
    ipureintro; exact e9 _
  isplitl [H10]
  · iexists _; isplitr; swap; · iexact H10
    ipureintro; exact e10 _
  isplitl [H11]
  · iexists _; isplitr; swap; · iexact H11
    ipureintro; exact e11 _
  iexists _; isplitr; swap; · iexact H12
  ipureintro; exact e12 _

set_option maxHeartbeats 2000000 in
/-- The body at a later point of the second pass. -/
theorem run1_later_b (c : Dev nD) (i : grid1.Coords) (hc : ¬ isFirst1 i) (hA : ¬ k1_cond2 i = 1#1) (hB : k1_cond3 i = 1#1)
    (a2 : Memref sig .tc .vmem S1x400x10000 .i8) (h2 : a2.IsWhole) (a3 : Memref sig .tc .vmem S10000x128 .f32) (h3 : a3.IsWhole)
    (a4 : Memref sig .tc .vmem S400x128 .f32) (h4 : a4.IsWhole) (a5 : Memref sig .tc .vmem S400x1 .f32) (h5 : a5.IsWhole)
    (a6 : Memref sig .tc .vmem S1x128 .f32) (h6 : a6.IsWhole) (a7 : Memref sig .tc .vmem S400x128 .f32) (h7 : a7.IsWhole)
    (a8 : Memref sig .tc .vmem S10000x128 .f32) (h8 : a8.IsWhole) (a9 : Memref sig .tc .vmem S10000x128 .i8) (h9 : a9.IsWhole)
    (a10 : Memref sig .tc .vmem S1x128 .f32) (h10 : a10.IsWhole) (a11 : Memref sig .tc .vmem S1x128 .f32) (h11 : a11.IsWhole)
    (a12 : Memref sig .tc .vmem S1x128 .f32) (h12 : a12.IsWhole)
    (q : Vec F S1x400x10000 .i8) (s : Vec F S10000x128 .f32) (p : Vec F S400x128 .f32) (r : Vec F S400x1 .f32) (b : Vec F S1x128 .f32)
    (Y : Vec F S10000x128 .f32) (k : Kept F) (E : Set ℕ) (K : PUnit → sProp 𝕄) :
    iprop(owns (c : Thread nD τ) a2 fullShare q ∗ owns (c : Thread nD τ) a3 fullShare s ∗ owns (c : Thread nD τ) a4 fullShare p ∗ owns (c : Thread nD τ) a5 fullShare r ∗ owns (c : Thread nD τ) a6 fullShare b
        ∗ (∃ d, owns (c : Thread nD τ) a7 fullShare d) ∗ owns (c : Thread nD τ) a8 fullShare Y
        ∗ owns (c : Thread nD τ) a9 fullShare k.s8 ∗ owns (c : Thread nD τ) a10 fullShare k.u ∗ owns (c : Thread nD τ) a11 fullShare k.v ∗ owns (c : Thread nD τ) a12 fullShare k.m
        ∗ (iprop(owns (c : Thread nD τ) a2 fullShare q ∗ owns (c : Thread nD τ) a3 fullShare s ∗ owns (c : Thread nD τ) a4 fullShare p ∗ owns (c : Thread nD τ) a5 fullShare r ∗ owns (c : Thread nD τ) a6 fullShare b
            ∗ owns (c : Thread nD τ) a7 fullShare (last1 i hB Y q p r b k) ∗ owns (c : Thread nD τ) a8 fullShare Y
            ∗ owns (c : Thread nD τ) a9 fullShare k.s8 ∗ owns (c : Thread nD τ) a10 fullShare k.u ∗ owns (c : Thread nD τ) a11 fullShare k.v ∗ owns (c : Thread nD τ) a12 fullShare k.m) -∗ K ⟨⟩))
      ⊢ wp frame (wpE (defs₀ (F := F)) Variants.none c none) E (cc1__pass23_kernel i a2 h2 a3 h3 a4 h4 a5 h5 a6 h6 a7 h7 a8 h8 a9 h9 a10 h10 a11 h11 a12 h12) K := by
  simp only [cc1__pass23_kernel_eq_skeleton]; unfold cc1__pass23_kernel_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%f8, %e8, H8⟩, ⟨%f9, %e9, H9⟩, ⟨%f10, %e10, H10⟩, ⟨%f11, %e11, H11⟩, ⟨%f12, %e12, H12⟩, Hk⟩
  obtain rfl := h2.eq_unread e2; obtain rfl := h3.eq_unread e3; obtain rfl := h4.eq_unread e4; obtain rfl := h5.eq_unread e5; obtain rfl := h6.eq_unread e6
  obtain rfl := h8.eq_unread e8; obtain rfl := h9.eq_unread e9; obtain rfl := h10.eq_unread e10; obtain rfl := h11.eq_unread e11; obtain rfl := h12.eq_unread e12
  sl_exec (disch := first | exact hc | exact hA | exact hB)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; rw [View.read_writes_full, View.readAt_unit a8.view _ _ rfl (k1_off2_inb i hB), View.readAt_full, View.readAt_full, View.readAt_full, View.readAt_full, View.readAt_full, View.readAt_full, h2.read_unread, h5.read_unread, h9.read_unread, h10.read_unread, h11.read_unread, h12.read_unread, View.readAt_full, View.readAt_full, h4.read_unread, h6.read_unread, h8.read_unread]; rfl
  isplitl [H8]
  · iexists _; isplitr; swap; · iexact H8
    ipureintro; exact h8.read_unread _
  isplitl [H9]
  · iexists _; isplitr; swap; · iexact H9
    ipureintro; exact h9.read_unread _
  isplitl [H10]
  · iexists _; isplitr; swap; · iexact H10
    ipureintro; exact h10.read_unread _
  isplitl [H11]
  · iexists _; isplitr; swap; · iexact H11
    ipureintro; exact h11.read_unread _
  iexists _; isplitr; swap; · iexact H12
  ipureintro; exact h12.read_unread _

end Cert.KernelIdeal.Hand

end
-- ==== Proof.Call0.lean ====
/-
  The first grid call: its proof data and its record as a segment of the program.

  The two whole inputs stay staged; the kept buffer holds their product from the first point on; after point `t` each
  result's staging buffer holds the body's result on block `t` of the second argument.
-/
module

public import proofs.«01_k».proof.Proof.Body0
public import proofs.«01_k».proof.Proof.Gen.KernelIdeal.Launch
public import Idealize.ShloMosaic.Lib.Pipeline.Frame
public import Idealize.ShloMosaic.Lib.Pipeline.Regions
public import Idealize.ShloMosaic.Lib.Pipeline.RegionArrays
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- A buffer of the core held at some contents. -/
abbrev anyBuf (c : Dev nD) (b : Ref sig .tc) : sProp 𝕄 :=
  iprop(∃ f : Buf (Elt F) ((c : Thread nD τ).loc b), ((c : Thread nD τ).loc b) ↦{fullShare} f)

/-- The buffers of the second call, which the first leaves alone. -/
def others0 (c : Dev nD) : sProp 𝕄 :=
  iprop(anyBuf c cc1_stg0_0 ∗ anyBuf c cc1_stg0_1 ∗ anyBuf c cc1_stg1_0 ∗ anyBuf c cc1_stg2_0 ∗ anyBuf c cc1_stg2_1 ∗ anyBuf c cc1_stg3_0 ∗ anyBuf c cc1_stg3_1 ∗ anyBuf c cc1_stg4_0 ∗ anyBuf c cc1_stg5_0 ∗ anyBuf c cc1_stg5_1 ∗ anyBuf c cc1_scratch0 ∗ anyBuf c cc1_scratch1 ∗ anyBuf c cc1_scratch2 ∗ anyBuf c cc1_scratch3 ∗ anyBuf c cc1_scratch4)

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The first point. -/
abbrev first0 : Fin cfg0.N := ⟨0, by rw [show cfg0.N = 25 from N_0]; omega⟩

/-- The kept buffer's contents from the first point on. -/
def kept0 (c : Dev nD) : Vec F S10000x128 .f32 := k0_pay1 (blk0 W c 0 first0) (blk0 W c 1 first0)

/-- What the body is run in before point `n`: the kept buffer at anything before the first point, filled from then on. -/
def inv0 (c : Dev nD) : ℕ → sProp 𝕄
  | 0 => iprop(anyBuf c cc0_scratch0 ∗ others0 c)
  | _ + 1 => iprop(owns (c : Thread nD τ) (Memref.whole cc0_scratch0) fullShare (kept0 W c) ∗ others0 c)

/-- The proof data of the first call on core `c`. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => blk0 W c 2 t
    | ⟨3, _⟩ => k0_pay2 (blk0 W c 2 t)
    | ⟨4, _⟩ => k0_pay3 (blk0 W c 2 t)
    | ⟨5, _⟩ => k0_pay4 (blk0 W c 2 t) (kept0 W c)
    | ⟨6, _⟩ => res0 (grid0.coords t) (blk0 W c 2 t) (kept0 W c)
  Φ t := inv0 W c t.val
  q _ := fullShare
  owed _ := 0

/-- The first call's arrays start as the buffers hold them. -/
theorem dat0_A (c : Dev nD) (w : Fin cfg0.W) : (dat0 W c).A w = W c (Proc.devRef .tc (Pipeline.arrRef spec0 w)) := by dsimp only [dat0]
/-- After a point the first call's features block is the one it found. -/
theorem after0_0 (c : Dev nD) (t : Fin cfg0.N) : (dat0 W c).after 0 t = blk0 W c 0 t := by dsimp only [dat0]
/-- After a point the first call's weights block is the one it found. -/
theorem after0_1 (c : Dev nD) (t : Fin cfg0.N) : (dat0 W c).after 1 t = blk0 W c 1 t := by dsimp only [dat0]
/-- After a point the first call's rows block is the one it found. -/
theorem after0_2 (c : Dev nD) (t : Fin cfg0.N) : (dat0 W c).after 2 t = blk0 W c 2 t := by dsimp only [dat0]
/-- After a point the bytes block is the point's rows, as bytes. -/
theorem after0_3 (c : Dev nD) (t : Fin cfg0.N) : (dat0 W c).after 3 t = k0_pay2 (blk0 W c 2 t) := by dsimp only [dat0]
/-- After a point the row sums block is the point's rows, summed. -/
theorem after0_4 (c : Dev nD) (t : Fin cfg0.N) : (dat0 W c).after 4 t = k0_pay3 (blk0 W c 2 t) := by dsimp only [dat0]
/-- After a point the product block is the point's rows times the kept array. -/
theorem after0_5 (c : Dev nD) (t : Fin cfg0.N) : (dat0 W c).after 5 t = k0_pay4 (blk0 W c 2 t) (kept0 W c) := by dsimp only [dat0]
/-- After a point the partial sum block is that product plus the kept array's own rows. -/
theorem after0_6 (c : Dev nD) (t : Fin cfg0.N) : (dat0 W c).after 6 t = res0 (grid0.coords t) (blk0 W c 2 t) (kept0 W c) := by dsimp only [dat0]
/-- What is kept before a point of the first call. -/
theorem inv0_before (c : Dev nD) (t : Fin cfg0.N) : (dat0 W c).Φ t.castSucc = inv0 W c t.val := by
  dsimp only [dat0]; rfl
/-- What is kept after a point of the first call. -/
theorem inv0_after (c : Dev nD) (t : Fin cfg0.N) : (dat0 W c).Φ t.succ = inv0 W c (t.val + 1) := by
  dsimp only [dat0]; rfl

/-- Input 0's staging buffer holds its block at every point. -/
theorem before0_0 (c : Dev nD) (t : Fin cfg0.N) (d) : (dat0 W c).before 0 t d = blk0 W c 0 t :=
  ((dat0 W c).before_in_eq_fetched 0 rfl (fun _ => rfl) (fun _ _ _ => rfl) (fun t => by rw [after0_0]; unfold Dat.blockOf blk0; rw [dat0_A]) t d).trans
    (by unfold Dat.fetched Dat.blockOf blk0; rw [dat0_A]; rfl)
/-- Input 1's staging buffer holds its block at every point. -/
theorem before0_1 (c : Dev nD) (t : Fin cfg0.N) (d) : (dat0 W c).before 1 t d = blk0 W c 1 t :=
  ((dat0 W c).before_in_eq_fetched 1 rfl (fun _ => rfl) (fun _ _ _ => rfl) (fun t => by rw [after0_1]; unfold Dat.blockOf blk0; rw [dat0_A]) t d).trans
    (by unfold Dat.fetched Dat.blockOf blk0; rw [dat0_A]; rfl)
/-- Input 2's staging buffer holds its block at every point. -/
theorem before0_2 (c : Dev nD) (t : Fin cfg0.N) (d) : (dat0 W c).before 2 t d = blk0 W c 2 t :=
  ((dat0 W c).before_in_eq_fetched 2 rfl (fun _ => rfl) (fun _ _ _ => rfl) (fun t => by rw [after0_2]; unfold Dat.blockOf blk0; rw [dat0_A]) t d).trans
    (by unfold Dat.fetched Dat.blockOf blk0; rw [dat0_A]; rfl)

/-- The branch is taken at the first point only. -/
theorem isFirst0_iff (t : Fin cfg0.N) : isFirst0 (grid0.coords t) ↔ t.val = 0 := by
  have ht : t.val < 25 := Nat.lt_of_lt_of_eq t.isLt N_0
  have e0 : (grid0.coords t 0).val = t.val / 1 % 25 := Pipeline.Grid.coords_val t 0 (by decide) rfl
  have h : isFirst0 (grid0.coords t) ↔ t.val % 25 = 0 := by
    simp only [isFirst0, e0]
    word_cmp
  rw [h]; omega

/-- What the body is called with at point `t`, -/
def pre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d)) ∗ (∃ d, owns (c : Thread nD τ) (st0_1 t) fullShare ((dat0 W c).before 1 t d)) ∗ (∃ d, owns (c : Thread nD τ) (st0_2 t) fullShare ((dat0 W c).before 2 t d)) ∗ (∃ d, owns (c : Thread nD τ) (st0_3 t) fullShare ((dat0 W c).before 3 t d)) ∗ (∃ d, owns (c : Thread nD τ) (st0_4 t) fullShare ((dat0 W c).before 4 t d)) ∗ (∃ d, owns (c : Thread nD τ) (st0_5 t) fullShare ((dat0 W c).before 5 t d)) ∗ (∃ d, owns (c : Thread nD τ) (st0_6 t) fullShare ((dat0 W c).before 6 t d)))

/-- and what it returns. -/
def post0 (c : Dev nD) (t : Fin cfg0.N) : sProp 𝕄 :=
  iprop((dat0 W c).Φ t.succ ∗ (dat0 W c).owesAt () t.succ
    ∗ owns (c : Thread nD τ) (st0_0 t) fullShare ((dat0 W c).after 0 t) ∗ owns (c : Thread nD τ) (st0_1 t) fullShare ((dat0 W c).after 1 t) ∗ owns (c : Thread nD τ) (st0_2 t) fullShare ((dat0 W c).after 2 t) ∗ owns (c : Thread nD τ) (st0_3 t) fullShare ((dat0 W c).after 3 t) ∗ owns (c : Thread nD τ) (st0_4 t) fullShare ((dat0 W c).after 4 t) ∗ owns (c : Thread nD τ) (st0_5 t) fullShare ((dat0 W c).after 5 t) ∗ owns (c : Thread nD τ) (st0_6 t) fullShare ((dat0 W c).after 6 t))

set_option maxHeartbeats 1600000 in
/-- The body at any point: the first point fills the kept buffer, a later one reads it. -/
theorem body0 (c : Dev nD) (t : Fin cfg0.N) :
    pre0 W c t ⊢ wp frame (wpE (defs₀ (F := F)) Variants.none c none) Set.univ (bodyAt0 t) (fun _ => post0 W c t) := by
  unfold pre0 post0 bodyAt0
  simp only [before0_0, before0_1, before0_2]
  rw [inv0_before, inv0_after, show (dat0 W c).owesAt () t.succ = (dat0 W c).owesAt () t.castSucc from rfl,
    after0_0, after0_1, after0_2, after0_3, after0_4, after0_5, after0_6]
  by_cases h0 : t.val = 0
  · obtain rfl : t = first0 := Fin.ext h0
    rw [show inv0 W c (first0 : Fin cfg0.N).val = iprop(anyBuf c cc0_scratch0 ∗ others0 c) from rfl, show inv0 W c ((first0 : Fin cfg0.N).val + 1) = iprop(owns (c : Thread nD τ) (Memref.whole cc0_scratch0) fullShare (kept0 W c) ∗ others0 c) from rfl]
    iintro ⟨⟨⟨%fs, HS⟩, HR⟩, Ho, ⟨%d0, H0⟩, ⟨%d1, H1⟩, ⟨%d2, H2⟩, ⟨%d3, H3⟩, ⟨%d4, H4⟩, ⟨%d5, H5⟩, ⟨%d6, H6⟩⟩
    iapply (run0_first c (grid0.coords first0) ((isFirst0_iff first0).mpr rfl) _ _ _ _ _ _ _ _ _ _ _ _ _ _ _ _ (blk0 W c 0 first0) (blk0 W c 1 first0) (blk0 W c 2 first0) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS]
    · iexists fs; rw [owns_whole]; iexact HS
    iintro ⟨H0, H1, H2, H3, H4, H5, H6, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ := Nat.exists_eq_succ_of_ne_zero h0
    rw [hn, show inv0 W c (n.succ) = iprop(owns (c : Thread nD τ) (Memref.whole cc0_scratch0) fullShare (kept0 W c) ∗ others0 c) from rfl, show inv0 W c (n.succ + 1) = iprop(owns (c : Thread nD τ) (Memref.whole cc0_scratch0) fullShare (kept0 W c) ∗ others0 c) from rfl]
    iintro ⟨⟨HS, HR⟩, Ho, ⟨%d0, H0⟩, ⟨%d1, H1⟩, ⟨%d2, H2⟩, ⟨%d3, H3⟩, ⟨%d4, H4⟩, ⟨%d5, H5⟩, ⟨%d6, H6⟩⟩
    iapply (run0_later c (grid0.coords t) (fun h => h0 ((isFirst0_iff t).mp h)) _ _ _ _ _ _ _ _ _ _ _ _ _ _ _ _ (blk0 W c 0 t) (blk0 W c 1 t) (blk0 W c 2 t) (kept0 W c) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS]; · iexact HS
    iintro ⟨H0, H1, H2, H3, H4, H5, H6, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body there. -/
theorem row0 (t : Fin cfg0.N) : defs₀ (F := F) .tc cfg0.body (cfg0.bodyArgs t (cfg0.slots t)) = bodyAt0 t := by
  unfold defs₀; rw [Defs.onTc_tc]

/-- The body obligation, at every point. -/
theorem obl0 (c : Dev nD) : BodyObligation (dat0 (F := F) W c) (defs₀ (F := F)) Variants.none () Set.univ := fun t => by
  rw [bigSep_W0, bigSep_W0, row0]
  exact triple_restated (body0 W c t) rfl .rfl fun _ => .rfl

/-- What the call is entered in: the scoped buffers at anything. -/
theorem in0 (c : Dev nD) : (Pipeline.scopedRest (Ix := Unit) (Name := ℕ) (U := UR sig nD τ) (Lvl := ℕ) (Val := Elt F) spec0 c : sProp 𝕄) = inv0 W c 0 := by
  rw [scopedRest0_eq]; rfl

/-- What the call leaves is the scoped buffers at anything. -/
theorem out0 (c : Dev nD) (n : ℕ) : inv0 W c n ⊢ (Pipeline.scopedRest (Ix := Unit) (Name := ℕ) (U := UR sig nD τ) (Lvl := ℕ) (Val := Elt F) spec0 c : sProp 𝕄) := by
  rw [in0 W c]
  cases n with
  | zero => exact .rfl
  | succ n =>
    show iprop(owns (c : Thread nD τ) (Memref.whole cc0_scratch0) fullShare (kept0 W c) ∗ others0 c) ⊢ iprop(anyBuf c cc0_scratch0 ∗ others0 c)
    rw [owns_whole]
    iintro ⟨HS, HR⟩
    isplitl [HS]; · iexists _; iexact HS
    iexact HR

end Cert.KernelIdeal.Hand

end
-- ==== Proof.Call1.lean ====
/-
  The second grid call: its proof data.

  The first pass (points 0 … 24) fills the kept array, 400 rows a point, with the product of the first staged array; the
  second pass (points 25 … 49) reads it whole. Before point `n` of the first pass the kept array's rows below `400·n` are
  final and the others are anything; in the second pass all are final.
-/
module

public import proofs.«01_k».proof.Proof.Body1
public import proofs.«01_k».proof.Proof.Call0
public import Idealize.ShloMosaic.Lib.ValueIdxCore
public import Idealize.ShloMosaic.Lib.ValueLayoutCasts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-! ## The staged array a pass works on -/

/-- What a pass keeps of the array it works on. -/
def quant (X : Vec F S10000x128 .f32) : Kept F where
  s8 := k1_pay12 0#32 X X
  u := k1_pay13 0#32 X X
  v := k1_pay1 (k1_pay14 0#32 X X)
  m := k1_pay2 (k1_pay7 0#32 X X)

/-- Word 0 picks the first of the two arrays, -/
theorem pick_first (s Y : Vec F S10000x128 .f32) : k1_pay6 0#32 s Y = s := by
  show Scalar.select (Scalar.cmpi .eq 0#32 0#32) (shapeCast S10000x128 s shapeCasts_S10000x128_S10000x128) Y = s
  rw [shapeCast_self]; rfl

/-- and word 1 the second. -/
theorem pick_second (s Y : Vec F S10000x128 .f32) : k1_pay6 1#32 s Y = Y := by
  show Scalar.select (Scalar.cmpi .eq 1#32 0#32) (shapeCast S10000x128 s shapeCasts_S10000x128_S10000x128) Y = Y
  rfl

/-- Everything a pass keeps is a function of the array picked. -/
theorem setUp_of_pick (i : grid1.Coords) (s Y X : Vec F S10000x128 .f32) (h : k1_pay6 (BitVec.ofNat 32 (i 0).val) s Y = X) : setUp i s Y = quant X := by
  simp only [setUp, quant, k1_pay12, k1_pay13, k1_pay14, k1_pay11, k1_pay10, k1_pay9, k1_pay8, k1_pay7, h, pick_first]

/-- The first pass works on the staged array, -/
theorem setUp_a (i : grid1.Coords) (h : (i 0).val = 0) (s Y : Vec F S10000x128 .f32) : setUp i s Y = quant s :=
  setUp_of_pick i s Y s (by rw [h]; exact pick_first s Y)

/-- the second on the kept one. -/
theorem setUp_b (i : grid1.Coords) (h : (i 0).val = 1) (s Y : Vec F S10000x128 .f32) : setUp i s Y = quant Y :=
  setUp_of_pick i s Y Y (by rw [h]; exact pick_second s Y)

/-! ## The grid's points -/

/-- The outer coordinate of point `t` is the pass, -/
theorem pass_val (t : Fin grid1.N) : (grid1.coords t 0).val = t.val / 25 % 2 := Pipeline.Grid.coords_val t 0 (by decide) rfl
/-- the inner one the block. -/
theorem block_val (t : Fin grid1.N) : (grid1.coords t 1).val = t.val / 1 % 25 := Pipeline.Grid.coords_val t 1 (by decide) rfl

/-- A pass is set up at its first point. -/
theorem isFirst1_iff (t : Fin grid1.N) : isFirst1 (grid1.coords t) ↔ t.val % 25 = 0 := by
  have ht : t.val < 50 := Nat.lt_of_lt_of_eq t.isLt N_1
  have e := block_val t
  simp only [isFirst1, e]
  word_cmp

/-- The first pass's branch is taken at points 0 … 24, -/
theorem cond2_iff (t : Fin grid1.N) : k1_cond2 (grid1.coords t) = 1#1 ↔ t.val < 25 := by
  have ht : t.val < 50 := Nat.lt_of_lt_of_eq t.isLt N_1
  have e := pass_val t
  have h : k1_cond2 (grid1.coords t) = 1#1 ↔ t.val / 25 % 2 = 0 := by
    simp only [k1_cond2, e]
    word_cmp
  rw [h]; omega

/-- the second pass's at points 25 … 49. -/
theorem cond3_iff (t : Fin grid1.N) : k1_cond3 (grid1.coords t) = 1#1 ↔ 25 ≤ t.val := by
  have ht : t.val < 50 := Nat.lt_of_lt_of_eq t.isLt N_1
  have e := pass_val t
  have h : k1_cond3 (grid1.coords t) = 1#1 ↔ t.val / 25 % 2 = 1 := by
    simp only [k1_cond3, e]
    word_cmp
  rw [h]; omega

/-- Where the first pass's rows go. -/
theorem off1_val : ∀ t : Fin grid1.N, k1_off1 (grid1.coords t) (0 : Fin 2) = 400 * (t.val % 25) ∧ k1_off1 (grid1.coords t) (1 : Fin 2) = 0 := by
  decide +kernel

/-- Where the second pass reads them. -/
theorem off2_val : ∀ t : Fin grid1.N, k1_off2 (grid1.coords t) (0 : Fin 2) = 400 * (t.val % 25) ∧ k1_off2 (grid1.coords t) (1 : Fin 2) = 0 := by
  decide +kernel

/-! ## The proof data -/

/-- The buffers of the first call, which the second leaves alone. -/
def others1 (c : Dev nD) : sProp 𝕄 :=
  iprop(anyBuf c cc0_stg0_0 ∗ anyBuf c cc0_stg1_0 ∗ anyBuf c cc0_stg2_0 ∗ anyBuf c cc0_stg2_1 ∗ anyBuf c cc0_stg3_0 ∗ anyBuf c cc0_stg3_1 ∗ anyBuf c cc0_stg4_0 ∗ anyBuf c cc0_stg4_1 ∗ anyBuf c cc0_stg5_0 ∗ anyBuf c cc0_stg5_1 ∗ anyBuf c cc0_stg6_0 ∗ anyBuf c cc0_stg6_1 ∗ anyBuf c cc0_scratch0)

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The first pass's point that works on block `n`. -/
abbrev ptA (n : ℕ) (h : n < 25) : Fin cfg1.N := ⟨n, by rw [show cfg1.N = 50 from N_1]; omega⟩

/-- The first point. -/
abbrev first1 : Fin cfg1.N := ptA 0 (by decide)

/-- What the first pass keeps. -/
def keptA (c : Dev nD) : Kept F := quant (blk1 W c 1 first1)

/-- The rows of the first pass at point `t`. -/
def rowsA (c : Dev nD) (t : Fin cfg1.N) : Vec F S400x128 .f32 := rows1 (blk1 W c 0 t) (blk1 W c 3 t) (keptA W c)

/-- The kept array once the first pass is over: row `y` is in block `y / 400`. -/
def midArr (c : Dev nD) : Vec F S10000x128 .f32 := fun y =>
  rowsA W c (ptA ((y 0).val / 400) (by have := idx2_lt0 y; omega)) (ix2 ⟨(y 0).val % 400, by omega⟩ (y 1))

/-- What the second pass keeps. -/
def keptB (c : Dev nD) : Kept F := quant (midArr W c)

/-- The rows below `400·n` of `Y` are final. -/
def filled (c : Dev nD) (n : ℕ) (Y : Vec F S10000x128 .f32) : Prop := ∀ y : S10000x128.Idx, (y 0).val < 400 * n → Y y = midArr W c y

/-- What a pass keeps, held. -/
def keptHeld (c : Dev nD) (k : Kept F) : sProp 𝕄 :=
  iprop(owns (c : Thread nD τ) (Memref.whole cc1_scratch1) fullShare k.s8 ∗ owns (c : Thread nD τ) (Memref.whole cc1_scratch2) fullShare k.u
    ∗ owns (c : Thread nD τ) (Memref.whole cc1_scratch3) fullShare k.v ∗ owns (c : Thread nD τ) (Memref.whole cc1_scratch4) fullShare k.m)

/-- In the first pass, after `n` points. -/
def duringA (c : Dev nD) (n : ℕ) : sProp 𝕄 :=
  iprop(others1 c ∗ (∃ Y : Vec F S10000x128 .f32, ⌜filled W c n Y⌝ ∗ owns (c : Thread nD τ) (Memref.whole cc1_scratch0) fullShare Y) ∗ keptHeld c (keptA W c))

/-- In the second pass. -/
def duringB (c : Dev nD) : sProp 𝕄 :=
  iprop(others1 c ∗ owns (c : Thread nD τ) (Memref.whole cc1_scratch0) fullShare (midArr W c) ∗ keptHeld c (keptB W c))

/-- At the start. -/
def atStart (c : Dev nD) : sProp 𝕄 := iprop(anyBuf c cc0_stg0_0 ∗ anyBuf c cc0_stg1_0 ∗ anyBuf c cc0_stg2_0 ∗ anyBuf c cc0_stg2_1 ∗ anyBuf c cc0_stg3_0 ∗ anyBuf c cc0_stg3_1 ∗ anyBuf c cc0_stg4_0 ∗ anyBuf c cc0_stg4_1 ∗ anyBuf c cc0_stg5_0 ∗ anyBuf c cc0_stg5_1 ∗ anyBuf c cc0_stg6_0 ∗ anyBuf c cc0_stg6_1 ∗ anyBuf c cc0_scratch0 ∗ anyBuf c cc1_scratch0 ∗ anyBuf c cc1_scratch1 ∗ anyBuf c cc1_scratch2 ∗ anyBuf c cc1_scratch3 ∗ anyBuf c cc1_scratch4)

/-- What the body is run in before point `n`. -/
def inv1 (c : Dev nD) (n : ℕ) : sProp 𝕄 := if n = 0 then atStart c else if n ≤ 25 then duringA W c n else duringB W c

/-- The result's block at point `t`. -/
def outAt (c : Dev nD) (t : Fin cfg1.N) : Vec F S400x128 .f32 :=
  if h : k1_cond3 (grid1.coords t) = 1#1 then last1 (grid1.coords t) h (midArr W c) (blk1 W c 0 t) (blk1 W c 2 t) (blk1 W c 3 t) (blk1 W c 4 t) (keptB W c) else rowsA W c t

/-- The proof data of the second call on core `c`. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => outAt W c t
  Φ t := inv1 W c t.val
  q _ := fullShare
  owed _ := 0

/-- The second call's arrays start as the buffers hold them. -/
theorem dat1_A (c : Dev nD) (w : Fin cfg1.W) : (dat1 W c).A w = W c (Proc.devRef .tc (Pipeline.arrRef spec1 w)) := by dsimp only [dat1]
/-- After a point the second call's bytes block is the one it found. -/
theorem after1_0 (c : Dev nD) (t : Fin cfg1.N) : (dat1 W c).after 0 t = blk1 W c 0 t := by dsimp only [dat1]
/-- After a point the second call's features block is the one it found. -/
theorem after1_1 (c : Dev nD) (t : Fin cfg1.N) : (dat1 W c).after 1 t = blk1 W c 1 t := by dsimp only [dat1]
/-- After a point the second call's partial sum block is the one it found. -/
theorem after1_2 (c : Dev nD) (t : Fin cfg1.N) : (dat1 W c).after 2 t = blk1 W c 2 t := by dsimp only [dat1]
/-- After a point the second call's row sums block is the one it found. -/
theorem after1_3 (c : Dev nD) (t : Fin cfg1.N) : (dat1 W c).after 3 t = blk1 W c 3 t := by dsimp only [dat1]
/-- After a point the second call's bias block is the one it found. -/
theorem after1_4 (c : Dev nD) (t : Fin cfg1.N) : (dat1 W c).after 4 t = blk1 W c 4 t := by dsimp only [dat1]
/-- After a point the result's block is the point's own result. -/
theorem after1_5 (c : Dev nD) (t : Fin cfg1.N) : (dat1 W c).after 5 t = outAt W c t := by dsimp only [dat1]
/-- What is kept before a point of the second call. -/
theorem inv1_before (c : Dev nD) (t : Fin cfg1.N) : (dat1 W c).Φ t.castSucc = inv1 W c t.val := by
  dsimp only [dat1]; rfl
/-- What is kept after a point of the second call. -/
theorem inv1_after (c : Dev nD) (t : Fin cfg1.N) : (dat1 W c).Φ t.succ = inv1 W c (t.val + 1) := by
  dsimp only [dat1]; rfl

/-- Input 0's staging buffer holds its block at every point. -/
theorem before1_0 (c : Dev nD) (t : Fin cfg1.N) (d) : (dat1 W c).before 0 t d = blk1 W c 0 t :=
  ((dat1 W c).before_in_eq_fetched 0 rfl (fun _ => rfl) (fun _ _ _ => rfl) (fun t => by rw [after1_0]; unfold Dat.blockOf blk1; rw [dat1_A]) t d).trans
    (by unfold Dat.fetched Dat.blockOf blk1; rw [dat1_A]; rfl)
/-- Input 1's staging buffer holds its block at every point. -/
theorem before1_1 (c : Dev nD) (t : Fin cfg1.N) (d) : (dat1 W c).before 1 t d = blk1 W c 1 t :=
  ((dat1 W c).before_in_eq_fetched 1 rfl (fun _ => rfl) (fun _ _ _ => rfl) (fun t => by rw [after1_1]; unfold Dat.blockOf blk1; rw [dat1_A]) t d).trans
    (by unfold Dat.fetched Dat.blockOf blk1; rw [dat1_A]; rfl)
/-- Input 2's staging buffer holds its block at every point. -/
theorem before1_2 (c : Dev nD) (t : Fin cfg1.N) (d) : (dat1 W c).before 2 t d = blk1 W c 2 t :=
  ((dat1 W c).before_in_eq_fetched 2 rfl (fun _ => rfl) (fun _ _ _ => rfl) (fun t => by rw [after1_2]; unfold Dat.blockOf blk1; rw [dat1_A]) t d).trans
    (by unfold Dat.fetched Dat.blockOf blk1; rw [dat1_A]; rfl)
/-- Input 3's staging buffer holds its block at every point. -/
theorem before1_3 (c : Dev nD) (t : Fin cfg1.N) (d) : (dat1 W c).before 3 t d = blk1 W c 3 t :=
  ((dat1 W c).before_in_eq_fetched 3 rfl (fun _ => rfl) (fun _ _ _ => rfl) (fun t => by rw [after1_3]; unfold Dat.blockOf blk1; rw [dat1_A]) t d).trans
    (by unfold Dat.fetched Dat.blockOf blk1; rw [dat1_A]; rfl)
/-- Input 4's staging buffer holds its block at every point. -/
theorem before1_4 (c : Dev nD) (t : Fin cfg1.N) (d) : (dat1 W c).before 4 t d = blk1 W c 4 t :=
  ((dat1 W c).before_in_eq_fetched 4 rfl (fun _ => rfl) (fun _ _ _ => rfl) (fun t => by rw [after1_4]; unfold Dat.blockOf blk1; rw [dat1_A]) t d).trans
    (by unfold Dat.fetched Dat.blockOf blk1; rw [dat1_A]; rfl)

/-- A point of the first pass makes 400 more rows final. -/
theorem filled_step (c : Dev nD) (t : Fin cfg1.N) (ht : t.val < 25) (Y : Vec F S10000x128 .f32) (hY : filled W c t.val Y) :
    filled W c (t.val + 1) (putRows (grid1.coords t) Y (blk1 W c 0 t) (blk1 W c 3 t) (keptA W c)) := by
  intro y hy
  have e0 := (off1_val t).1
  have e1 := (off1_val t).2
  have h1 := idx2_lt1 y
  unfold putRows VecWindow.put
  by_cases hlo : 400 * t.val ≤ (y 0).val
  · have h : ∀ a : Fin S10000x128.rank, k1_off1 (grid1.coords t) a ≤ (y a).val ∧ (y a).val < k1_off1 (grid1.coords t) a + S400x128.size a := by
      intro a
      match a with
      | ⟨0, _⟩ => exact ⟨by show k1_off1 (grid1.coords t) (0 : Fin 2) ≤ (y 0).val; omega, by show (y 0).val < k1_off1 (grid1.coords t) (0 : Fin 2) + 400; omega⟩
      | ⟨1, _⟩ => exact ⟨by show k1_off1 (grid1.coords t) (1 : Fin 2) ≤ (y 1).val; omega, by show (y 1).val < k1_off1 (grid1.coords t) (1 : Fin 2) + 128; omega⟩
    rw [dif_pos h]
    have hq : (y 0).val / 400 = t.val := by omega
    have hp : ptA ((y 0).val / 400) (by have := idx2_lt0 y; omega) = t := Fin.ext hq
    unfold midArr
    rw [hp]
    show k1_pay4 _ _ _ _ _ _ _ = _
    unfold k1_pay4
    show shapeCast S400x128 _ _ _ = _
    rw [shapeCast_self]
    refine congrArg (rowsA W c t) (funext fun a => Fin.ext ?_)
    match a with
    | ⟨0, _⟩ => show (y 0).val - k1_off1 (grid1.coords t) (0 : Fin 2) = (y 0).val % 400; omega
    | ⟨1, _⟩ => show (y 1).val - k1_off1 (grid1.coords t) (1 : Fin 2) = (y 1).val; omega
  · rw [dif_neg (fun h => hlo (by
      have := (h 0).1
      have h' : k1_off1 (grid1.coords t) (0 : Fin 2) ≤ (y 0).val := this
      omega))]
    exact hY y (by omega)

/-- After the whole first pass the kept array is final. -/
theorem filled_all (c : Dev nD) (Y : Vec F S10000x128 .f32) (hY : filled W c 25 Y) : Y = midArr W c :=
  funext fun y => hY y (by have := idx2_lt0 y; omega)

/-- What the body is called with at point `t`, -/
def pre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d)) ∗ (∃ d, owns (c : Thread nD τ) (st1_1 t) fullShare ((dat1 W c).before 1 t d)) ∗ (∃ d, owns (c : Thread nD τ) (st1_2 t) fullShare ((dat1 W c).before 2 t d)) ∗ (∃ d, owns (c : Thread nD τ) (st1_3 t) fullShare ((dat1 W c).before 3 t d)) ∗ (∃ d, owns (c : Thread nD τ) (st1_4 t) fullShare ((dat1 W c).before 4 t d)) ∗ (∃ d, owns (c : Thread nD τ) (st1_5 t) fullShare ((dat1 W c).before 5 t d)))

/-- and what it returns. -/
def post1 (c : Dev nD) (t : Fin cfg1.N) : sProp 𝕄 :=
  iprop((dat1 W c).Φ t.succ ∗ (dat1 W c).owesAt () t.succ
    ∗ owns (c : Thread nD τ) (st1_0 t) fullShare ((dat1 W c).after 0 t) ∗ owns (c : Thread nD τ) (st1_1 t) fullShare ((dat1 W c).after 1 t) ∗ owns (c : Thread nD τ) (st1_2 t) fullShare ((dat1 W c).after 2 t) ∗ owns (c : Thread nD τ) (st1_3 t) fullShare ((dat1 W c).after 3 t) ∗ owns (c : Thread nD τ) (st1_4 t) fullShare ((dat1 W c).after 4 t) ∗ owns (c : Thread nD τ) (st1_5 t) fullShare ((dat1 W c).after 5 t))

set_option maxHeartbeats 1600000 in
/-- The body at the first point of the first pass. -/
theorem body1_first_a (c : Dev nD) (t : Fin cfg1.N) (h0 : t.val = 0) :
    pre1 W c t ⊢ wp frame (wpE (defs₀ (F := F)) Variants.none c none) Set.univ (bodyAt1 t) (fun _ => post1 W c t) := by
  unfold pre1 post1 bodyAt1
  simp only [before1_0, before1_1, before1_2, before1_3, before1_4]
  rw [inv1_before, inv1_after, show (dat1 W c).owesAt () t.succ = (dat1 W c).owesAt () t.castSucc from rfl,
    after1_0, after1_1, after1_2, after1_3, after1_4, after1_5]
  have hA := (cond2_iff t).mpr (by omega)
  have hB : ¬ k1_cond3 (grid1.coords t) = 1#1 := fun h => absurd ((cond3_iff t).mp h) (by omega)
  have hs := fun Y => setUp_a (grid1.coords t) (by rw [pass_val]; omega) (blk1 W c 1 t) Y
  have e : t = first1 := Fin.ext h0
  clear h0; subst e
  rw [show inv1 W c (first1 : Fin cfg1.N).val = atStart c from if_pos rfl,
    show inv1 W c ((first1 : Fin cfg1.N).val + 1) = duringA W c 1 from (if_neg (by show ¬ (0 + 1 = 0); omega)).trans (if_pos (by show 0 + 1 ≤ 25; omega)),
    show outAt W c first1 = rowsA W c first1 from dif_neg hB]
  unfold atStart duringA keptHeld others1
  iintro ⟨⟨R0, R1, R2, R3, R4, R5, R6, R7, R8, R9, R10, R11, R12, ⟨%fs, S0⟩, ⟨%f1, A1⟩, ⟨%f2, A2⟩, ⟨%f3, A3⟩, ⟨%f4, A4⟩⟩, Ho, ⟨%d0, H0⟩, ⟨%d1, H1⟩, ⟨%d2, H2⟩, ⟨%d3, H3⟩, ⟨%d4, H4⟩, ⟨%d5, H5⟩⟩
  iapply (run1_first_a c (grid1.coords first1) ((isFirst1_iff _).mpr (by show 0 % 25 = 0; omega)) hA hB _ _ _ _ _ _ _ _ _ _ _ _ _ _ _ _ _ _ _ _ _ _ (blk1 W c 0 first1) (blk1 W c 1 first1) (blk1 W c 2 first1) (blk1 W c 3 first1) (blk1 W c 4 first1) fs Set.univ _)
  isplitl [H0]; · iexact H0
  isplitl [H1]; · iexact H1
  isplitl [H2]; · iexact H2
  isplitl [H3]; · iexact H3
  isplitl [H4]; · iexact H4
  isplitl [H5]; · iexists _; iexact H5
  isplitl [S0]; · rw [owns_whole]; iexact S0
  isplitl [A1]; · iexists f1; rw [owns_whole]; iexact A1
  isplitl [A2]; · iexists f2; rw [owns_whole]; iexact A2
  isplitl [A3]; · iexists f3; rw [owns_whole]; iexact A3
  isplitl [A4]; · iexists f4; rw [owns_whole]; iexact A4
  rw [hs fs]
  iintro ⟨H0, H1, H2, H3, H4, H5, S0, A1, A2, A3, A4⟩
  isplitl [R0 R1 R2 R3 R4 R5 R6 R7 R8 R9 R10 R11 R12 S0 A1 A2 A3 A4]
  · isplitl [R0 R1 R2 R3 R4 R5 R6 R7 R8 R9 R10 R11 R12]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      iexact R12
    isplitl [S0]
    · iexists _
      isplitr
      · ipureintro
        exact filled_step W c first1 (by show 0 < 25; omega) fs (fun y hy => absurd hy (by show ¬ _ < 400 * 0; omega))
      iexact S0
    isplitl [A1]; · iexact A1
    isplitl [A2]; · iexact A2
    isplitl [A3]; · iexact A3
    iexact A4
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- The body at a later point of the first pass. -/
theorem body1_later_a (c : Dev nD) (t : Fin cfg1.N) (h0 : ¬ t.val = 0) (h1 : t.val < 25) :
    pre1 W c t ⊢ wp frame (wpE (defs₀ (F := F)) Variants.none c none) Set.univ (bodyAt1 t) (fun _ => post1 W c t) := by
  unfold pre1 post1 bodyAt1
  simp only [before1_0, before1_1, before1_2, before1_3, before1_4]
  rw [inv1_before, inv1_after, show (dat1 W c).owesAt () t.succ = (dat1 W c).owesAt () t.castSucc from rfl,
    after1_0, after1_1, after1_2, after1_3, after1_4, after1_5]
  have hA := (cond2_iff t).mpr h1
  have hB : ¬ k1_cond3 (grid1.coords t) = 1#1 := fun h => absurd ((cond3_iff t).mp h) (by omega)
  have hc : ¬ isFirst1 (grid1.coords t) := fun h => absurd ((isFirst1_iff t).mp h) (by omega)
  rw [show inv1 W c t.val = duringA W c t.val from (if_neg h0).trans (if_pos (by omega)),
    show inv1 W c (t.val + 1) = duringA W c (t.val + 1) from (if_neg (by omega)).trans (if_pos (by omega)),
    show outAt W c t = rowsA W c t from dif_neg hB]
  unfold duringA keptHeld
  iintro ⟨⟨HR, ⟨%Y, ⟨%hY, S0⟩⟩, A1, A2, A3, A4⟩, Ho, ⟨%d0, H0⟩, ⟨%d1, H1⟩, ⟨%d2, H2⟩, ⟨%d3, H3⟩, ⟨%d4, H4⟩, ⟨%d5, H5⟩⟩
  iapply (run1_later_a c (grid1.coords t) hc hA hB _ _ _ _ _ _ _ _ _ _ _ _ _ _ _ _ _ _ _ _ _ _ (blk1 W c 0 t) (blk1 W c 1 t) (blk1 W c 2 t) (blk1 W c 3 t) (blk1 W c 4 t) Y (keptA W c) Set.univ _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [A1]; · iexact A1
  isplitl [A2]; · iexact A2
  isplitl [A3]; · iexact A3
  isplitl [A4]; · iexact A4
  iintro ⟨H0, H1, H2, H3, H4, H5, S0, A1, A2, A3, A4⟩
  isplitl [HR S0 A1 A2 A3 A4]
  · isplitl [HR]; · iexact HR
    isplitl [S0]
    · iexists _
      isplitr
      · ipureintro
        exact filled_step W c t h1 Y hY
      iexact S0
    isplitl [A1]; · iexact A1
    isplitl [A2]; · iexact A2
    isplitl [A3]; · iexact A3
    iexact A4
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- The body at the first point of the second pass. -/
theorem body1_first_b (c : Dev nD) (t : Fin cfg1.N) (h0 : t.val = 25) :
    pre1 W c t ⊢ wp frame (wpE (defs₀ (F := F)) Variants.none c none) Set.univ (bodyAt1 t) (fun _ => post1 W c t) := by
  unfold pre1 post1 bodyAt1
  simp only [before1_0, before1_1, before1_2, before1_3, before1_4]
  rw [inv1_before, inv1_after, show (dat1 W c).owesAt () t.succ = (dat1 W c).owesAt () t.castSucc from rfl,
    after1_0, after1_1, after1_2, after1_3, after1_4, after1_5]
  have hA : ¬ k1_cond2 (grid1.coords t) = 1#1 := fun h => absurd ((cond2_iff t).mp h) (by omega)
  have hB := (cond3_iff t).mpr (by omega)
  have hc := (isFirst1_iff t).mpr (by omega)
  have hs := setUp_b (grid1.coords t) (by rw [pass_val]; omega) (blk1 W c 1 t) (midArr W c)
  rw [show inv1 W c t.val = duringA W c 25 from by rw [h0]; rfl,
    show inv1 W c (t.val + 1) = duringB W c from (if_neg (by omega)).trans (if_neg (by omega)),
    show outAt W c t = last1 (grid1.coords t) hB (midArr W c) (blk1 W c 0 t) (blk1 W c 2 t) (blk1 W c 3 t) (blk1 W c 4 t) (keptB W c) from dif_pos hB]
  unfold duringA duringB keptHeld
  iintro ⟨⟨HR, ⟨%Y, ⟨%hY, S0⟩⟩, A1, A2, A3, A4⟩, Ho, ⟨%d0, H0⟩, ⟨%d1, H1⟩, ⟨%d2, H2⟩, ⟨%d3, H3⟩, ⟨%d4, H4⟩, ⟨%d5, H5⟩⟩
  obtain rfl := filled_all W c Y hY
  iapply (run1_first_b c (grid1.coords t) hc hA hB _ _ _ _ _ _ _ _ _ _ _ _ _ _ _ _ _ _ _ _ _ _ (blk1 W c 0 t) (blk1 W c 1 t) (blk1 W c 2 t) (blk1 W c 3 t) (blk1 W c 4 t) (midArr W c) Set.univ _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [A1]; · iexists _; iexact A1
  isplitl [A2]; · iexists _; iexact A2
  isplitl [A3]; · iexists _; iexact A3
  isplitl [A4]; · iexists _; iexact A4
  rw [hs]
  iintro ⟨H0, H1, H2, H3, H4, H5, S0, A1, A2, A3, A4⟩
  isplitl [HR S0 A1 A2 A3 A4]
  · isplitl [HR]; · iexact HR
    isplitl [S0]; · iexact S0
    isplitl [A1]; · iexact A1
    isplitl [A2]; · iexact A2
    isplitl [A3]; · iexact A3
    iexact A4
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- The body at a later point of the second pass. -/
theorem body1_later_b (c : Dev nD) (t : Fin cfg1.N) (h1 : 25 < t.val) :
    pre1 W c t ⊢ wp frame (wpE (defs₀ (F := F)) Variants.none c none) Set.univ (bodyAt1 t) (fun _ => post1 W c t) := by
  unfold pre1 post1 bodyAt1
  simp only [before1_0, before1_1, before1_2, before1_3, before1_4]
  rw [inv1_before, inv1_after, show (dat1 W c).owesAt () t.succ = (dat1 W c).owesAt () t.castSucc from rfl,
    after1_0, after1_1, after1_2, after1_3, after1_4, after1_5]
  have hA : ¬ k1_cond2 (grid1.coords t) = 1#1 := fun h => absurd ((cond2_iff t).mp h) (by omega)
  have hB := (cond3_iff t).mpr (by omega)
  have ht : t.val < 50 := Nat.lt_of_lt_of_eq t.isLt N_1
  have hc : ¬ isFirst1 (grid1.coords t) := fun h => absurd ((isFirst1_iff t).mp h) (by omega)
  rw [show inv1 W c t.val = duringB W c from (if_neg (by omega)).trans (if_neg (by omega)),
    show inv1 W c (t.val + 1) = duringB W c from (if_neg (by omega)).trans (if_neg (by omega)),
    show outAt W c t = last1 (grid1.coords t) hB (midArr W c) (blk1 W c 0 t) (blk1 W c 2 t) (blk1 W c 3 t) (blk1 W c 4 t) (keptB W c) from dif_pos hB]
  unfold duringB keptHeld
  iintro ⟨⟨HR, S0, A1, A2, A3, A4⟩, Ho, ⟨%d0, H0⟩, ⟨%d1, H1⟩, ⟨%d2, H2⟩, ⟨%d3, H3⟩, ⟨%d4, H4⟩, ⟨%d5, H5⟩⟩
  iapply (run1_later_b c (grid1.coords t) hc hA hB _ _ _ _ _ _ _ _ _ _ _ _ _ _ _ _ _ _ _ _ _ _ (blk1 W c 0 t) (blk1 W c 1 t) (blk1 W c 2 t) (blk1 W c 3 t) (blk1 W c 4 t) (midArr W c) (keptB W c) Set.univ _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [A1]; · iexact A1
  isplitl [A2]; · iexact A2
  isplitl [A3]; · iexact A3
  isplitl [A4]; · iexact A4
  iintro ⟨H0, H1, H2, H3, H4, H5, S0, A1, A2, A3, A4⟩
  isplitl [HR S0 A1 A2 A3 A4]
  · isplitl [HR]; · iexact HR
    isplitl [S0]; · iexact S0
    isplitl [A1]; · iexact A1
    isplitl [A2]; · iexact A2
    isplitl [A3]; · iexact A3
    iexact A4
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem body1 (c : Dev nD) (t : Fin cfg1.N) :
    pre1 W c t ⊢ wp frame (wpE (defs₀ (F := F)) Variants.none c none) Set.univ (bodyAt1 t) (fun _ => post1 W c t) := by
  by_cases h0 : t.val = 0
  · exact body1_first_a W c t h0
  by_cases h1 : t.val < 25
  · exact body1_later_a W c t h0 h1
  by_cases h2 : t.val = 25
  · exact body1_first_b W c t h2
  · exact body1_later_b W c t (by omega)

/-- The body table's row at point `t`'s slots is the body there. -/
theorem row1 (t : Fin cfg1.N) : defs₀ (F := F) .tc cfg1.body (cfg1.bodyArgs t (cfg1.slots t)) = bodyAt1 t := by
  unfold defs₀; rw [Defs.onTc_tc]

/-- The result is stored at every point. -/
theorem busy5 (t : Fin cfg1.N) : cfg1.idle 5 (cfg1.grid.coords t) = false := by
  show (!(k1_cond2 (grid1.coords t) == 1#1) && !(k1_cond3 (grid1.coords t) == 1#1)) = false
  by_cases h : t.val < 25
  · rw [(cond2_iff t).mpr h]; rfl
  · rw [(cond3_iff t).mpr (by omega)]
    cases (k1_cond2 (grid1.coords t) == 1#1) <;> rfl

/-- The body obligation, at every point. -/
theorem obl1 (c : Dev nD) : BodyObligation (dat1 (F := F) W c) (defs₀ (F := F)) Variants.none () Set.univ := fun t => by
  rw [bigSep_W1, bigSep_W1, row1, busy5 t]
  exact triple_restated (body1 W c t) rfl .rfl fun _ => .rfl

/-- What the call is entered in: the scoped buffers at anything. -/
theorem in1 (c : Dev nD) : (Pipeline.scopedRest (Ix := Unit) (Name := ℕ) (U := UR sig nD τ) (Lvl := ℕ) (Val := Elt F) spec1 c : sProp 𝕄) = inv1 W c 0 := by
  rw [scopedRest1_eq]; rfl

/-- What the call leaves is the scoped buffers at anything. -/
theorem out1 (c : Dev nD) : inv1 W c 50 ⊢ (Pipeline.scopedRest (Ix := Unit) (Name := ℕ) (U := UR sig nD τ) (Lvl := ℕ) (Val := Elt F) spec1 c : sProp 𝕄) := by
  rw [in1 W c, show inv1 W c 50 = duringB W c from (if_neg (by omega)).trans (if_neg (by omega)), show inv1 W c 0 = atStart c from if_pos rfl]
  unfold duringB atStart others1 keptHeld
  rw [owns_whole, owns_whole, owns_whole, owns_whole, owns_whole]
  iintro ⟨⟨R0, R1, R2, R3, R4, R5, R6, R7, R8, R9, R10, R11, R12⟩, S0, A1, A2, A3, A4⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [S0]; · iexists _; iexact S0
  isplitl [A1]; · iexists _; iexact A1
  isplitl [A2]; · iexists _; iexact A2
  isplitl [A3]; · iexists _; iexact A3
  iexists _; iexact A4

end Cert.KernelIdeal.Hand

end
-- ==== Proof.Run.lean ====
/-
  The whole program: the first call, the reshape of the bias, the second call. Every weakly fair run ends, with the
  arguments as they were, the semaphore counters at zero and the result at what the second call's proof data compute.
-/
module

public import proofs.«01_k».proof.Proof.Call1
public import proofs.«01_k».proof.Proof.Gen.KernelIdeal.Regions
public import Idealize.ShloMosaic.Lib.Pipeline.FrameTail
public import Idealize.ShloMosaic.Lib.Pipeline.RegionArraysS

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg cellOf)

variable {F : FTy → Type} [FloatOps F] [Named F]

local notation "𝕄" => MT nD τ sig Unit (Elt F) ℕ (UR sig nD τ) ℕ

variable (m : (ℓ : Loc nD τ sig) → Buf (Elt F) ℓ)

/-! ## The buffers between the three items -/

/-- At launch. -/
def B0 (c : Dev nD) : Valuation τ sig (Elt F) := fun b => m (c, b)
/-- After the first call. -/
def B1 (c : Dev nD) : Valuation τ sig (Elt F) := Pipeline.afterRegion (dat0 (B0 m) c) (B0 m c)
/-- After the reshape of the bias. -/
def B2 (c : Dev nD) : Valuation τ sig (Elt F) := StableHlo.after hostOps1 (B1 m c)
/-- After the second call. -/
def B3 (c : Dev nD) : Valuation τ sig (Elt F) := Pipeline.afterRegion (dat1 (B2 m) c) (B2 m c)

/-- The first call's arrays after it. -/
theorem B1_arr (c : Dev nD) (w : Fin cfg0.W) : B1 m c (Proc.devRef .tc (Pipeline.arrRef spec0 w)) = (dat0 (B0 m) c).arrAt w cfg0.N :=
  Pipeline.afterRegion_arr (dat0 (B0 m) c) (B0 m c) launch0.win.arr_inj w
/-- The second call's arrays after it. -/
theorem B3_arr (c : Dev nD) (w : Fin cfg1.W) : B3 m c (Proc.devRef .tc (Pipeline.arrRef spec1 w)) = (dat1 (B2 m) c).arrAt w cfg1.N :=
  Pipeline.afterRegion_arr (dat1 (B2 m) c) (B2 m c) launch1.win.arr_inj w
/-- The first call leaves every buffer but its results. -/
theorem B1_keeps (c : Dev nD) (r : Ref sig .tc) (h : ∀ w, Pipeline.arrRef cfg0.spec w = r → (cfg0.win w).isOut = false) :
    B1 m c (Proc.devRef .tc r) = B0 m c (Proc.devRef .tc r) :=
  Pipeline.afterRegion_keeps (dat0 (B0 m) c) (B0 m c) launch0.win.arr_inj (dat0_A _ c) r h
/-- The second call leaves every buffer but its result. -/
theorem B3_keeps (c : Dev nD) (r : Ref sig .tc) (h : ∀ w, Pipeline.arrRef cfg1.spec w = r → (cfg1.win w).isOut = false) :
    B3 m c (Proc.devRef .tc r) = B2 m c (Proc.devRef .tc r) :=
  Pipeline.afterRegion_keeps (dat1 (B2 m) c) (B2 m c) launch1.win.arr_inj (dat1_A _ c) r h
/-- The reshape leaves every buffer but its own. -/
theorem B2_keeps (c : Dev nD) (r : Ref sig .tc) (h : r ∉ hostOps1_W) : B2 m c (Proc.devRef .tc r) = B1 m c (Proc.devRef .tc r) :=
  StableHlo.after_of_writes_sub hostOps1 _ hostOps1_writes h

/-- Argument 0 is never written. -/
theorem B3_arg0 (c : Dev nD) : B3 m c (Proc.devRef .tc main_arg0) = m ((c : Thread nD τ).loc main_arg0) :=
  (B3_keeps m c main_arg0 (by decide)).trans ((B2_keeps m c main_arg0 (by decide)).trans (B1_keeps m c main_arg0 (by decide)))
/-- Argument 1 is never written. -/
theorem B3_arg1 (c : Dev nD) : B3 m c (Proc.devRef .tc main_arg1) = m ((c : Thread nD τ).loc main_arg1) :=
  (B3_keeps m c main_arg1 (by decide)).trans ((B2_keeps m c main_arg1 (by decide)).trans (B1_keeps m c main_arg1 (by decide)))
/-- Argument 2 is never written. -/
theorem B3_arg2 (c : Dev nD) : B3 m c (Proc.devRef .tc main_arg2) = m ((c : Thread nD τ).loc main_arg2) :=
  (B3_keeps m c main_arg2 (by decide)).trans ((B2_keeps m c main_arg2 (by decide)).trans (B1_keeps m c main_arg2 (by decide)))
/-- Argument 3 is never written. -/
theorem B3_arg3 (c : Dev nD) : B3 m c (Proc.devRef .tc main_arg3) = m ((c : Thread nD τ).loc main_arg3) :=
  (B3_keeps m c main_arg3 (by decide)).trans ((B2_keeps m c main_arg3 (by decide)).trans (B1_keeps m c main_arg3 (by decide)))

/-! ## The segments -/

/-- The proof data of the two calls. -/
def dats : (p : Fin 2) → (c : Dev nD) → Dat τ (Elt F) Unit ℕ (UR sig nD τ) ℕ (cfgs p) c
  | ⟨0, _⟩ => dat0 (B0 m)
  | ⟨1, _⟩ => dat1 (B2 m)

/-- One credit index on the TensorCore's semaphores, -/
def idxs (g : GSem nD τ sig) : Finset Unit := if g.1.2 = .tc then {()} else ∅
/-- all at level 0. -/
def level (_ : GSem nD τ sig) (_ : Unit) : ℕ := 0

/-- What rides beside the buffers: the core owes nothing. -/
def owesNone (c : Dev nD) : sProp 𝕄 := iprop(∃ Wd, owes (c : Thread nD τ) (0 : CellTallies nD τ sig Unit) Wd)

/-- Every wait's level at either call is the one the program gives it. -/
theorem cut (p : Fin 2) : Pipeline.LevelCut (pcfgs (F := F)) adm () idxs level p (fun _ => (0 : CellTallies nD τ sig Unit)) (fun _ => 0) where
  hι c w s := by unfold idxs; rw [if_pos rfl]; exact Finset.mem_singleton_self ()
  hιb c w s := Nat.le_refl 0
  hD c g i h := absurd h (lt_irrefl _)

/-- The first call as a segment. -/
def call0 : RegionSeg (pcfgs (F := F)) adm (dats m) () defs₀ Variants.none idxs level 0 :=
  RegionSeg.ofHeldIn (pcfgs (F := F)) adm (dats m) () defs₀ Variants.none idxs level 0 (fun _ => 0) (Pipeline.ucRefs τ sig)
    (fun _ => iprop(emp)) (fun _ => iprop(emp)) launch0.toP rfl (fun c => (obl0 (B0 m) c).loose)
    (fun _ _ => rfl) (fun _ => rfl) (fun c w => (dat0 (B0 m) c).share_full (fun _ => rfl) w)
    (fun c => by
      show iprop(Pipeline.scopedRest spec0 c ∗ emp) ⊢ inv0 (B0 m) c 0
      rw [in0 (B0 m) c]
      iintro ⟨H, -⟩
      iexact H)
    (fun c => by
      show inv0 (B0 m) c cfg0.N ⊢ iprop(Pipeline.scopedRest spec0 c ∗ emp)
      refine (out0 (B0 m) c cfg0.N).trans ?_
      iintro H
      isplitl [H]; · iexact H
      iempintro)
    (fun _ => 0) (cut 0) (fun _ => iprop(emp)) (B0 m) (fun c w => dat0_A (B0 m) c w)

/-- The reshape as a segment. -/
def host1 : HostSeg (Ix := Unit) (Name := ℕ) (U := UR sig nD τ) (Lvl := ℕ) (pcfgs (F := F)) defs₀ Variants.none idxs level :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B1 m) owesNone

/-- The second call as a segment. -/
def call1 : RegionSeg (pcfgs (F := F)) adm (dats m) () defs₀ Variants.none idxs level 1 :=
  RegionSeg.ofHeldIn (pcfgs (F := F)) adm (dats m) () defs₀ Variants.none idxs level 1 (fun _ => 0) (Pipeline.ucRefs τ sig)
    (fun _ => iprop(emp)) (fun _ => iprop(emp)) launch1.toP rfl (fun c => (obl1 (B2 m) c).loose)
    (fun _ _ => rfl) (fun _ => rfl) (fun c w => (dat1 (B2 m) c).share_full (fun _ => rfl) w)
    (fun c => by
      show iprop(Pipeline.scopedRest spec1 c ∗ emp) ⊢ inv1 (B2 m) c 0
      rw [in1 (B2 m) c]
      iintro ⟨H, -⟩
      iexact H)
    (fun c => by
      show inv1 (B2 m) c cfg1.N ⊢ iprop(Pipeline.scopedRest spec1 c ∗ emp)
      rw [show cfg1.N = 50 from N_1]
      refine (out1 (B2 m) c).trans ?_
      iintro H
      isplitl [H]; · iexact H
      iempintro)
    (fun _ => 0) (cut 1) (fun _ => iprop(emp)) (B2 m) (fun c w => dat1_A (B2 m) c w)

/-- Between two items: every buffer held, nothing owed. -/
abbrev between (B : Dev nD → Valuation τ sig (Elt F)) (c : Dev nD) : sProp 𝕄 :=
  iprop(StableHlo.held (c : Thread nD τ) (Pipeline.ucRefs τ sig) (B c) ∗ owesNone c)

/-- No array of the first call is scoped. -/
theorem unscoped0 : ∀ w, (Pipeline.arrRef spec0 w).isScoped = false := by decide
/-- No array of the second call is scoped. -/
theorem unscoped1 : ∀ w, (Pipeline.arrRef spec1 w).isScoped = false := by decide

/-- The first call's arrays are among the buffers held between items. -/
theorem arrs0 : Pipeline.arrRefs (τ := τ) ((pcfgs (F := F)) 0).spec ⊆ Pipeline.ucRefs τ sig := Pipeline.arrRefs_sub_ucRefs spec0 unscoped0
/-- The second call's arrays are among the buffers held between items. -/
theorem arrs1 : Pipeline.arrRefs (τ := τ) ((pcfgs (F := F)) 1).spec ⊆ Pipeline.ucRefs τ sig := Pipeline.arrRefs_sub_ucRefs spec1 unscoped1

/-- The launch's buffers are what the first call starts from. -/
theorem call0_pre (c : Dev nD) : between (B0 m) c ⊢ (call0 m).pre c := by
  unfold call0
  refine BIBase.Entails.trans ?_ (RegionSeg.ofHeldIn_pre arrs0 c)
  unfold between owesNone
  iintro ⟨H, HO⟩
  isplitl [H]; · iexact H
  isplitl [HO]; · iexact HO
  isplitl []; · iempintro
  iempintro

/-- What the first call leaves is the buffers, its results written. -/
theorem call0_post (c : Dev nD) : (call0 m).post c ⊢ between (B1 m) c := by
  unfold call0
  refine (RegionSeg.ofHeldIn_post arrs0 c).trans ?_
  unfold between owesNone
  iintro ⟨H, HO, -, -⟩
  isplitl [H]; · iexact H
  iexact HO

/-- The buffers after the reshape are what the second call starts from. -/
theorem call1_pre (c : Dev nD) : between (B2 m) c ⊢ (call1 m).pre c := by
  unfold call1
  refine BIBase.Entails.trans ?_ (RegionSeg.ofHeldIn_pre arrs1 c)
  unfold between owesNone
  iintro ⟨H, HO⟩
  isplitl [H]; · iexact H
  isplitl [HO]; · iexact HO
  isplitl []; · iempintro
  iempintro

/-- What the second call leaves is the buffers, its result written. -/
theorem call1_post (c : Dev nD) : (call1 m).post c ⊢ between (B3 m) c := by
  unfold call1
  refine (RegionSeg.ofHeldIn_post arrs1 c).trans ?_
  unfold between owesNone
  iintro ⟨H, HO, -, -⟩
  isplitl [H]; · iexact H
  iexact HO

/-- The program as its three items. -/
abbrev items (_ : Dev nD) : List (Seg (pcfgs (F := F)) adm (dats m) () defs₀ Variants.none idxs level) :=
  [.region (call0 m), .host (host1 m), .region (call1 m)]

-- the run theorem's implicit arguments are found by unifying its conclusion with this one, which takes unfolding
-- plain definitions in a metavariable's type
set_option backward.isDefEq.respectTransparency.types false in
/-- Every weakly fair run of the program from any memory with zero counters ends; in every final state the arguments are
    as launched, the result holds what the second call computes, and every counter is at zero. -/
theorem run_main (ρ : Dev nD → PrngReg) :
    θ_run defs (onTc (τ := τ) (main (F := F))) ⟨m, fun _ => 0, ρ⟩ (fun r => (∀ c : Dev nD,
      r.2.mem ((c.tc : Thread nD τ).loc main_v0) = B3 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_regions_kit_dev_sems (pcfgs (F := F)) adm (dats m) () cellOf_inj emb₁ defs₀ Variants.none idxs level m ρ main
    (items m)
    (fun c Q => by
      rewrite [main_chain c, Seg.run_eq_chain,
        show (items m c).map Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, Seg.pipes_host, Seg.pipes_region, Seg.pipes_nil]; decide) (O₀ := 0) (hL := fun g hg => if_neg hg)
    (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := between (B0 m))
    (Tₙ := fun c => StableHlo.held (c : Thread nD τ) (Pipeline.ucRefs τ sig) (B3 m c))
    (hch := fun c => ⟨call0_pre m c, call0_post m c, call1_pre m c, call1_post m c⟩)
    (hinit := ?_)
    (QY := fun c s => s.mem ((c.tc : Thread nD τ).loc main_v0) = B3 m c (Proc.devRef .tc main_v0)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h hz => ⟨h, funext fun g => hz g (.inr (regions_no_unscoped g.2))⟩)
  · refine Pipeline.initEach idxs level fun c => ?_
    rw [show unscopedBufs c (fun b => m ((c : Thread nD τ).loc b)) = StableHlo.held (c : Thread nD τ) (Pipeline.ucRefs τ sig) (B0 m c) from
      Pipeline.unscopedBufs_held (Ix := Unit) (Name := ℕ) (U := UR sig nD τ) (Lvl := ℕ) c (B0 m c)]
    unfold between owesNone
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (B3 m c) s') $$ [Hh HSI]
    · isplitl [Hh] <;> iassumption
    icases Hr with ⟨%h, HSI⟩
    imodintro
    isplitr
    · ipureintro
      exact ⟨h (Proc.devRef .tc main_v0) (Finset.mem_filter.mpr ⟨StableHlo.devRef_mem_tcRefs main_v0, by decide⟩),
        (h (Proc.devRef .tc main_arg0) (Finset.mem_filter.mpr ⟨StableHlo.devRef_mem_tcRefs main_arg0, by decide⟩)).trans (B3_arg0 m c),
        (h (Proc.devRef .tc main_arg1) (Finset.mem_filter.mpr ⟨StableHlo.devRef_mem_tcRefs main_arg1, by decide⟩)).trans (B3_arg1 m c),
        (h (Proc.devRef .tc main_arg2) (Finset.mem_filter.mpr ⟨StableHlo.devRef_mem_tcRefs main_arg2, by decide⟩)).trans (B3_arg2 m c),
        (h (Proc.devRef .tc main_arg3) (Finset.mem_filter.mpr ⟨StableHlo.devRef_mem_tcRefs main_arg3, by decide⟩)).trans (B3_arg3 m c)⟩
    · iexact HSI

/-- The frame: every weakly fair run ends with the arguments as launched and every counter at zero. -/
theorem frame_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_main m ρ)

end Cert.KernelIdeal.Hand

end
-- ==== Proof.Scalars.lean ====
/-
  The two quantisers over the extended reals, and the arithmetic that undoes them: one 8-bit code of an entry of the
  second argument, the 8-bit codes of one column, and the sum of products that the integer product stands for.
-/
module

public import Idealize.ShloMosaic.PureOps.Ideal
public import Idealize.ShloMosaic.PureOps.Contract
public import Idealize.ShloMosaic.Lib.ValueIdx
public import Idealize.ShloMosaic.PureOps.Reduce

@[expose] public section

noncomputable section

namespace Cert.KernelIdeal.Hand

open Idealize.ShloMosaic

/-- Rounding to the nearest integer, ties to even. -/
abbrev rnd (x : EReal) : EReal := Ideal.liftRound Ideal.roundHalfEven x

/-- An integer as an extended real. -/
abbrev ofZ (n : ℤ) : EReal := (((n : ℤ) : ℝ) : EReal)

/-- The integer in `0 … 255` nearest an extended real. -/
def byteOf : EReal → ℤ
  | ⊥ => 0
  | ⊤ => 255
  | (r : ℝ) => min 255 (max 0 (Ideal.roundHalfEven r))

@[simp] theorem byteOf_bot : byteOf ⊥ = 0 := rfl
@[simp] theorem byteOf_top : byteOf ⊤ = 255 := rfl
@[simp] theorem byteOf_coe (r : ℝ) : byteOf r = min 255 (max 0 (Ideal.roundHalfEven r)) := rfl

/-- Zero as an extended real. -/
theorem ofZ_zero : ofZ 0 = 0 := by simp

/-- A finite sum of reals is their sum among the extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The rounded value clipped to `0 … 255` is that integer. -/
theorem clip_eq (x : EReal) : min (255 : EReal) (max 0 (rnd x)) = ofZ (byteOf x) := by
  induction x with
  | bot => simp [ofZ_zero]
  | top => simp; norm_cast
  | coe r =>
    simp only [Ideal.liftRound_coe, byteOf_coe]
    rw [show (255 : EReal) = ((255 : ℝ) : EReal) by norm_cast, show (0 : EReal) = ((0 : ℝ) : EReal) by norm_cast,
      ← EReal.coe_strictMono.monotone.map_max, ← EReal.coe_strictMono.monotone.map_min]
    unfold ofZ
    push_cast
    rfl

/-- It lies between 0 and 255. -/
theorem byteOf_bounds (x : EReal) : 0 ≤ byteOf x ∧ byteOf x ≤ 255 := by
  induction x with
  | bot => simp
  | top => simp
  | coe r => simp only [byteOf_coe]; omega

/-- An integer in the range of a signed byte comes back from its word. -/
theorem toInt_ofInt8 (n : ℤ) (h : -128 ≤ n) (h' : n ≤ 127) : (BitVec.ofInt 8 n).toInt = n := by
  rw [BitVec.toInt_ofInt]
  apply Int.bmod_eq_of_le <;> omega

/-- The stored signed byte, the rounded value less 128 converted, is the unsigned code less 128. -/
theorem stored_byte (x : EReal) : (Ideal.fptosi 8 (rnd x - 128)).toInt = byteOf x - 128 := by
  have hb := byteOf_bounds x
  have key : Ideal.toIntClamped (-(2 ^ (8 - 1) : Nat)) ((2 ^ (8 - 1) : Nat) - 1) (rnd x - 128) = byteOf x - 128 := by
    induction x with
    | bot => simp
    | top =>
      have : (⊤ : EReal) - 128 = ⊤ := by
        rw [show (128 : EReal) = ((128 : ℝ) : EReal) by norm_cast]; exact EReal.top_sub_coe _
      simp [this]
    | coe r =>
      simp only [Ideal.liftRound_coe, byteOf_coe]
      rw [show (128 : EReal) = ((128 : ℝ) : EReal) by norm_cast, ← EReal.coe_sub, Ideal.toIntClamped_coe]
      have e : ((Ideal.roundHalfEven r : ℤ) : ℝ) - 128 = ((Ideal.roundHalfEven r - 128 : ℤ) : ℝ) := by push_cast; ring
      rw [e, Int.floor_intCast, Int.ceil_intCast, ite_self]
      norm_num
      omega
  unfold Ideal.fptosi
  rw [key]
  exact toInt_ofInt8 _ (by omega) (by omega)

/-- Rounding does not leave an interval with integer ends. -/
theorem roundHalfEven_bounds (r : ℝ) (h : -127 ≤ r) (h' : r ≤ 127) :
    -127 ≤ Ideal.roundHalfEven r ∧ Ideal.roundHalfEven r ≤ 127 := by
  have hf : (-127 : ℤ) ≤ ⌊r⌋ := Int.le_floor.2 (by push_cast; exact h)
  have hl := Int.floor_le r
  unfold Ideal.roundHalfEven
  dsimp only
  have hc : ⌊r⌋ ≤ 127 := by
    have : (⌊r⌋ : ℝ) ≤ 127 := hl.trans h'
    exact_mod_cast this
  rcases eq_or_lt_of_le hc with h127 | hlt
  · have : r - ⌊r⌋ < 1 / 2 := by rw [h127]; push_cast; linarith
    rw [if_pos this]; omega
  · split_ifs <;> omega

/-- The code of a value in `-127 … 127`, as an integer. -/
def codeOf : EReal → ℤ
  | (r : ℝ) => Ideal.roundHalfEven r
  | _ => 0

/-- A value in `-127 … 127` rounds to its code, the stored signed byte is that code, and the code is in that range. -/
theorem code_spec (x : EReal) (h : -127 ≤ x) (h' : x ≤ 127) :
    rnd x = ofZ (codeOf x) ∧ (Ideal.fptosi 8 (rnd x)).toInt = codeOf x ∧ -127 ≤ codeOf x ∧ codeOf x ≤ 127 := by
  rw [show (-127 : EReal) = ((-127 : ℝ) : EReal) by rw [EReal.coe_neg]; rfl] at h
  rw [show (127 : EReal) = ((127 : ℝ) : EReal) by norm_cast] at h'
  induction x with
  | bot => exact absurd (le_bot_iff.1 h) (EReal.coe_ne_bot _)
  | top => exact absurd (top_le_iff.1 h') (EReal.coe_ne_top _)
  | coe r =>
    have hb := roundHalfEven_bounds r (EReal.coe_le_coe_iff.1 h) (EReal.coe_le_coe_iff.1 h')
    refine ⟨rfl, ?_, hb⟩
    unfold Ideal.fptosi
    rw [rnd, Ideal.liftRound_coe, Ideal.toIntClamped_coe, Int.floor_intCast, Int.ceil_intCast, ite_self]
    simp only [codeOf]
    rw [show max (-(2 ^ (8 - 1) : Nat) : ℤ) (min ((2 ^ (8 - 1) : Nat) - 1) (Ideal.roundHalfEven r)) = Ideal.roundHalfEven r by
      norm_num; omega]
    exact toInt_ofInt8 _ (by omega) (by omega)

/-- A deviation no larger than the column's scale, times 127 over the scale, lies in `-127 … 127`; where the scale is
    infinite it is 0. -/
theorem scaled_bounds (d A : EReal) (hA : 0 < A) (hd : max d (-d) ≤ A) :
    -127 ≤ d * Ideal.div 127 A ∧ d * Ideal.div 127 A ≤ 127 ∧ (A = ⊤ → d * Ideal.div 127 A = 0) := by
  rw [show (127 : EReal) = ((127 : ℝ) : EReal) by norm_cast]
  unfold Ideal.div
  rw [if_neg hA.ne']
  induction A with
  | bot => simp at hA
  | top => simp
  | coe a =>
    have ha : 0 < a := EReal.coe_pos.1 hA
    refine ⟨?_, ?_, fun h => absurd h (EReal.coe_ne_top _)⟩
    all_goals
      induction d with
      | bot => simp at hd
      | top => simp at hd
      | coe d =>
        rw [← EReal.coe_neg] at hd
        have h1 : d ≤ a := EReal.coe_le_coe_iff.1 ((le_max_left _ _).trans hd)
        have h2 : -d ≤ a := EReal.coe_le_coe_iff.1 ((le_max_right _ _).trans hd)
        rw [← EReal.coe_inv, ← EReal.coe_mul, ← EReal.coe_mul]
        try rw [← EReal.coe_neg]
        rw [EReal.coe_le_coe_iff]
        have e : d * (127 * a⁻¹) = (d / a) * 127 := by field_simp
        have e1 : d / a ≤ 1 := (div_le_one ha).2 h1
        have e2 : -1 ≤ d / a := by rw [le_div_iff₀ ha]; linarith
        rw [e]; linarith

/-- The products of the codes less 128, the sum of the column's codes and the two scales put together give the sum of
    the products of the dequantised entries. -/
theorem combine {n : ℕ} (q c : Fin n → ℤ) (A : EReal) (hA : 0 < A) (hc : A = ⊤ → ∀ k, c k = 0) :
    ofZ (∑ k, (q k - 128) * c k) * (A * ((1 / 127 : ℝ) : EReal) * ((1 / 255 : ℝ) : EReal))
        + A * ((1 / 127 : ℝ) : EReal) * ((128 / 255 : ℝ) : EReal) * ofZ (∑ k, c k)
      = ∑ k, Ideal.div (ofZ (q k)) 255 * (ofZ (c k) * Ideal.div A 127) := by
  have e127 : (127 : EReal) = ((127 : ℝ) : EReal) := by norm_cast
  have e255 : (255 : EReal) = ((255 : ℝ) : EReal) := by norm_cast
  induction A with
  | bot => simp at hA
  | top => simp [hc rfl, ofZ_zero]
  | coe a =>
    rw [e127, e255]
    simp only [Ideal.div_coe (show (127 : ℝ) ≠ 0 by norm_num), Ideal.div_coe (show (255 : ℝ) ≠ 0 by norm_num),
      ← EReal.coe_mul, ← EReal.coe_add]
    rw [← coe_sum]
    congr 1
    push_cast
    rw [Finset.sum_mul, Finset.mul_sum, ← Finset.sum_add_distrib]
    refine Finset.sum_congr rfl fun k _ => ?_
    ring

/-- The bound on the magnitudes, stated in extended reals, is the bound on the integers. -/
theorem total_le {n : ℕ} (q c : Fin n → ℤ) (N : ℕ)
    (h : ∑ k, max (ofZ (q k) - 128) (-(ofZ (q k) - 128)) * max (ofZ (c k)) (-ofZ (c k)) ≤ ((N : ℝ) : EReal)) :
    ∑ k, ((q k - 128) * c k).natAbs ≤ N := by
  have e : ∀ k, max (ofZ (q k) - 128) (-(ofZ (q k) - 128)) * max (ofZ (c k)) (-ofZ (c k))
      = (((((q k - 128) * c k).natAbs : ℕ) : ℝ) : EReal) := fun k => by
    rw [show (128 : EReal) = ((128 : ℝ) : EReal) by norm_cast, ← EReal.coe_sub, ← EReal.coe_neg, ← EReal.coe_neg,
      ← EReal.coe_strictMono.monotone.map_max, ← EReal.coe_strictMono.monotone.map_max, ← EReal.coe_mul]
    congr 1
    rw [Nat.cast_natAbs]
    push_cast
    rw [abs_mul]
    rfl
  simp only [e] at h
  rw [← coe_sum, EReal.coe_le_coe_iff] at h
  exact_mod_cast h

/-- A 32-bit sum of sign-extended bytes, at most 10000 of them, is their integer sum. -/
theorem toInt_sum32 {n : ℕ} (hn : n ≤ 10000) (w : Fin n → BitVec 8) :
    ((Finset.univ : Finset (Fin n)).fold IntOp.addi 0#32 (fun k => (w k).signExtend 32)).toInt = ∑ k, (w k).toInt := by
  have e : ∀ s : Finset (Fin n), s.fold IntOp.addi 0#32 (fun k => (w k).signExtend 32)
      = BitVec.ofInt 32 (∑ k ∈ s, (w k).toInt) := by
    intro s
    classical
    induction s using Finset.induction_on with
    | empty => simp
    | insert a s ha ih =>
      rw [Finset.fold_insert ha, Finset.sum_insert ha, ih, BitVec.ofInt_add]
      rfl
  rw [e, BitVec.toInt_ofInt]
  have hb : ∀ k ∈ (Finset.univ : Finset (Fin n)), |(w k).toInt| ≤ 128 := fun k _ => by
    have h1 := BitVec.toInt_lt (x := w k)
    have h2 := BitVec.le_toInt (x := w k)
    rw [abs_le]; constructor <;> omega
  have h := (Finset.abs_sum_le_sum_abs (fun k => (w k).toInt) Finset.univ).trans (Finset.sum_le_card_nsmul _ _ _ hb)
  simp only [Finset.card_univ, Fintype.card_fin, nsmul_eq_mul] at h
  rw [abs_le] at h
  have : (n : ℤ) ≤ 10000 := by exact_mod_cast hn
  apply Int.bmod_eq_of_le <;> omega

end Cert.KernelIdeal.Hand

end
-- ==== Proof.Maths.lean ====
/-
  One hop over the extended reals: the product of the dequantised second argument with the dequantised, mean-free
  columns, plus the means weighted by the row sums.  Both programs compute it; here are its parts by coordinates, and the
  form the integer product gives it.
-/
module

public import proofs.«01_k».proof.Proof.Scalars
public import Idealize.ShloMosaic.Lib.Pointwise.Index

@[expose] public section

noncomputable section

namespace Cert.KernelIdeal.Hand

open Idealize.ShloMosaic

/-! ### The literals -/

/-- The word of 255. -/
theorem lit_255 : Ideal.ofBits .f32 0x437F0000#32 = (255 : EReal) := by
  rw [show (255 : EReal) = ((255 : ℝ) : EReal) by norm_cast]
  simp [Ideal.ofBits, Ideal.ieee, -EReal.coe_mul]; norm_num
/-- The word of 128. -/
theorem lit_128 : Ideal.ofBits .f32 0x43000000#32 = (128 : EReal) := by
  rw [show (128 : EReal) = ((128 : ℝ) : EReal) by norm_cast]
  simp [Ideal.ofBits, Ideal.ieee, -EReal.coe_mul]; norm_num
/-- The word of 127. -/
theorem lit_127 : Ideal.ofBits .f32 0x42FE0000#32 = (127 : EReal) := by
  rw [show (127 : EReal) = ((127 : ℝ) : EReal) by norm_cast]
  simp [Ideal.ofBits, Ideal.ieee, -EReal.coe_mul]; norm_num
/-- The word of 0. -/
theorem lit_0 : Ideal.ofBits .f32 0x00000000#32 = (0 : EReal) := by
  simp [Ideal.ofBits, Ideal.ieee, -EReal.coe_mul]
/-- The word of minus infinity. -/
theorem lit_bot : Ideal.ofBits .f32 0xFF800000#32 = (⊥ : EReal) := by
  simp [Ideal.ofBits, Ideal.ieee, -EReal.coe_mul]
/-- The word of the bound 2^26. -/
theorem lit_total : Ideal.ofBits .f32 0x4C800000#32 = (((67108864 : ℕ) : ℝ) : EReal) := by
  simp [Ideal.ofBits, Ideal.ieee, -EReal.coe_mul]; norm_num

/-- The rows' number, the mean's divisor, as its literal. -/
abbrev rowsN : EReal := Ideal.ofBits .f32 0x461C4000#32

/-- The least scale a column may have, as its literal. -/
abbrev tiny : EReal := Ideal.ofBits .f32 0x0DA24260#32

/-- It is positive. -/
theorem tiny_pos : 0 < tiny := by
  unfold tiny
  simp [Ideal.ofBits, Ideal.ieee, -EReal.coe_mul]

/-! ### One hop -/

/-- Features: 10000 rows of 128. -/
abbrev Feat : Type := (⟨2, ![10000, 128]⟩ : Shape).Idx → EReal
/-- The square second argument. -/
abbrev Adj : Type := (⟨2, ![10000, 10000]⟩ : Shape).Idx → EReal

/-- The mean of column `j`. -/
def meanOf (X : Feat) (j : Fin 128) : EReal := Ideal.div (∑ k : Fin 10000, X (ix2 k j)) rowsN

/-- The deviation of an entry from its column's mean. -/
def devOf (X : Feat) (k : Fin 10000) (j : Fin 128) : EReal := X (ix2 k j) - meanOf X j

/-- The scale of column `j`: its greatest deviation in magnitude, at least `tiny`. -/
def ampOf (X : Feat) (j : Fin 128) : EReal :=
  max ((Finset.univ : Finset (Fin 10000)).fold max ⊥ fun k => max (devOf X k j) (-devOf X k j)) tiny

/-- The deviation in units of a 127th of the scale, before rounding. -/
def argOf (X : Feat) (k : Fin 10000) (j : Fin 128) : EReal := devOf X k j * Ideal.div 127 (ampOf X j)

/-- The code of an entry of the second argument, clipped to `0 … 255`. -/
def byteAt (A : Adj) (i k : Fin 10000) : EReal := min 255 (max 0 (rnd (A (ix2 i k) * 255)))

/-- One hop at row `i`, column `j`. -/
def hopOf (A : Adj) (X : Feat) (i : Fin 10000) (j : Fin 128) : EReal :=
  ∑ k : Fin 10000, Ideal.div (byteAt A i k) 255 * (rnd (argOf X k j) * Ideal.div (ampOf X j) 127)
    + (∑ k : Fin 10000, A (ix2 i k)) * meanOf X j

/-- The magnitude total of the hop's integer product. -/
def totalOf (A : Adj) (X : Feat) (i : Fin 10000) (j : Fin 128) : EReal :=
  ∑ k : Fin 10000, max (byteAt A i k - 128) (-(byteAt A i k - 128)) * max (rnd (argOf X k j)) (-rnd (argOf X k j))

/-- A fold of maxima is at least each of its members. -/
theorem le_fold_max {ι : Type*} (s : Finset ι) (f : ι → EReal) (b : EReal) (i : ι) (hi : i ∈ s) : f i ≤ s.fold max b f :=
  (Finset.le_fold_max (f i)).2 (Or.inr ⟨i, hi, le_rfl⟩)

/-- The scale is positive. -/
theorem ampOf_pos (X : Feat) (j : Fin 128) : 0 < ampOf X j := lt_of_lt_of_le tiny_pos (le_max_right _ _)

/-- No deviation exceeds the scale. -/
theorem dev_le (X : Feat) (k : Fin 10000) (j : Fin 128) : max (devOf X k j) (-devOf X k j) ≤ ampOf X j :=
  (le_fold_max Finset.univ (fun k => max (devOf X k j) (-devOf X k j)) ⊥ k (Finset.mem_univ k)).trans (le_max_left _ _)

/-- The integer code of an entry of column `j`. -/
def codeAt (X : Feat) (j : Fin 128) (k : Fin 10000) : ℤ := codeOf (argOf X k j)

/-- The integer code of an entry of the second argument. -/
def byteZ (A : Adj) (i k : Fin 10000) : ℤ := byteOf (A (ix2 i k) * 255)

/-- A column's codes: what rounding gives, what the stored byte holds. -/
theorem codeAt_spec (X : Feat) (k : Fin 10000) (j : Fin 128) :
    rnd (argOf X k j) = ofZ (codeAt X j k) ∧ (Ideal.fptosi 8 (rnd (argOf X k j))).toInt = codeAt X j k := by
  obtain ⟨h1, h2, _⟩ := scaled_bounds (devOf X k j) (ampOf X j) (ampOf_pos X j) (dev_le X k j)
  obtain ⟨h3, h4, _⟩ := code_spec _ h1 h2
  exact ⟨h3, h4⟩

/-- Where a column's scale is infinite its codes are 0. -/
theorem codeAt_top (X : Feat) (j : Fin 128) (h : ampOf X j = ⊤) (k : Fin 10000) : codeAt X j k = 0 := by
  have h3 := (scaled_bounds (devOf X k j) (ampOf X j) (ampOf_pos X j) (dev_le X k j)).2.2 h
  unfold codeAt argOf
  rw [h3]
  show Ideal.roundHalfEven 0 = 0
  simp [Ideal.roundHalfEven]

/-- The hop from its integer product: the product's sum and the column's sum of codes, each times its scale, plus the
    weighted mean. -/
theorem hopOf_eq (A : Adj) (X : Feat) (i : Fin 10000) (j : Fin 128) :
    hopOf A X i j
      = ofZ (∑ k, (byteZ A i k - 128) * codeAt X j k) * (ampOf X j * ((1 / 127 : ℝ) : EReal) * ((1 / 255 : ℝ) : EReal))
          + ampOf X j * ((1 / 127 : ℝ) : EReal) * ((128 / 255 : ℝ) : EReal) * ofZ (∑ k, codeAt X j k)
          + (∑ k : Fin 10000, A (ix2 i k)) * meanOf X j := by
  rw [combine _ _ _ (ampOf_pos X j) (codeAt_top X j)]
  unfold hopOf byteAt
  simp only [clip_eq, (codeAt_spec X _ j).1]
  rfl

/-- The bound on the hop's magnitude total is the bound on the integer products. -/
theorem total_bound (A : Adj) (X : Feat) (i : Fin 10000) (j : Fin 128) (h : totalOf A X i j ≤ (((67108864 : ℕ) : ℝ) : EReal)) :
    ∑ k, ((byteZ A i k - 128) * codeAt X j k).natAbs ≤ 67108864 := by
  apply total_le
  unfold totalOf byteAt at h
  simp only [clip_eq, (codeAt_spec X _ j).1] at h
  exact h

end Cert.KernelIdeal.Hand

end
-- ==== Proof.Columns.lean ====
/-
  A column maximum and a column sum, as folds over the rows.
-/
module

public import proofs.«01_k».proof.Proof.Maths
public import Idealize.ShloMosaic.Lib.Pointwise

@[expose] public section

noncomputable section

namespace Cert.KernelIdeal.Hand

open Idealize.ShloMosaic

/-- A column maximum from −∞, in a kernel. -/
theorem colmax {n m : ℕ} (src : FVec Ideal ⟨2, ![n, m]⟩ .f32) (h : (⟨2, ![n, m]⟩ : Shape).Reduces [0] ⟨1, ![m]⟩)
    (hφ : FKind.Formats .f32) (hacc : 0xFF800000#32 = FKind.maximumf.neutral .f32 hφ) (j : Fin m) :
    multiReduction .maximumf [0] ⟨1, ![m]⟩ src 0xFF800000#32 h hφ hacc (ix1 j)
      = (Finset.univ : Finset (Fin n)).fold max ⊥ fun k => src (ix2 k j) := by
  rw [multiReduction_maximumf_eq_fold, h.fold_fiber_r2_a0]
  exact congrArg (fun b => (Finset.univ : Finset (Fin n)).fold max b fun k => src (ix2 k j)) lit_bot

/-- A column maximum from −∞, in a host program. -/
theorem colmaxHost {n m : ℕ} (src : FVec Ideal ⟨2, ![n, m]⟩ .f32) (h : (⟨2, ![n, m]⟩ : Shape).ReducesTo [0] ⟨1, ![m]⟩)
    (hu : 0 < (⟨0, ![]⟩ : Shape).numel) (j : Fin m) :
    Host.reduce FloatOps.maximumf src (constant ⟨0, ![]⟩ .f32 0xFF800000#32) h hu (ix1 j)
      = (Finset.univ : Finset (Fin n)).fold max ⊥ fun k => src (ix2 k j) := by
  rw [Host.reduce_eq_fold, h.fold_fiber_r2_a0]
  exact congrArg (fun b => (Finset.univ : Finset (Fin n)).fold max b fun k => src (ix2 k j)) lit_bot

/-- A column sum of 32-bit words. -/
theorem colsum {n m : ℕ} (src : IVec ⟨2, ![n, m]⟩ 32) (h : (⟨2, ![n, m]⟩ : Shape).Reduces [0] ⟨1, ![m]⟩)
    (hacc : 0#32 = IKind.add.neutral) (j : Fin m) :
    multiReductionI .add [0] ⟨1, ![m]⟩ src 0#32 h hacc (ix1 j)
      = (Finset.univ : Finset (Fin n)).fold IntOp.addi 0#32 fun k => src (ix2 k j) := by
  rw [multiReductionI_eq_fold]
  exact h.fold_fiber_r2_a0 (ix1 j) IntOp.addi 0#32 src

end Cert.KernelIdeal.Hand

end
-- ==== Proof.Values.lean ====
/-
  The values the two bodies store, read at an index over the extended reals.
-/
module

public import proofs.«01_k».proof.Proof.Columns
public import proofs.«01_k».proof.Proof.Call1
public import proofs.«01_k».proof.Proof.Call0
public import Idealize.ShloMosaic.Lib.Pointwise
public import Idealize.ShloMosaic.Lib.IntMxu
public import Idealize.ShloMosaic.Lib.Pointwise.IndexBridge
public import Idealize.ShloMosaic.Lib.ValueLayout

@[expose] public section

set_option maxRecDepth 16384

noncomputable section

namespace Cert.KernelIdeal.Hand

open Cert.KernelIdeal Cert.KernelIdeal.Gen
open Idealize.ShloMosaic

/-- The first named constant is 1/127. -/
theorem inv127 : Named.named (F := Ideal) κ "inv_127" (φ := .f32) 0x3C010204#32 = ((1 / 127 : ℝ) : EReal) :=
  IdealRules.named_const.ideal_named_scalar _ _ _ _ rfl
/-- The second named constant is 1/255. -/
theorem inv255 : Named.named (F := Ideal) κ "inv_255" (φ := .f32) 0x3B808081#32 = ((1 / 255 : ℝ) : EReal) :=
  IdealRules.named_const.ideal_named_scalar _ _ _ _ rfl
/-- The third named constant is 128/255. -/
theorem r128 : Named.named (F := Ideal) κ "r128_255" (φ := .f32) 0x3F008081#32 = ((128 / 255 : ℝ) : EReal) :=
  IdealRules.named_const.ideal_named_scalar _ _ _ _ rfl

section At
variable {s : Shape}
/-- A conversion to bytes at an index. -/
theorem fptosi_at (a : FVec Ideal s .f32) (i : s.Idx) : fptosi 8 a i = Ideal.fptosi 8 (a i) := rfl
/-- A rounding at an index. -/
theorem roundeven_at (a : FVec Ideal s .f32) (i : s.Idx) : roundeven a i = rnd (a i) := rfl
/-- A conversion from integers at an index. -/
theorem sitofp_at {w : ℕ} (a : IVec s w) (i : s.Idx) : sitofp (F := Ideal) .f32 a i = ofZ (a i).toInt := rfl
/-- A splat literal at an index. -/
theorem splat_at (w : BitVec 32) (i : s.Idx) : broadcast s (Scalar.ofBits (F := Ideal) .f32 w) i = Ideal.ofBits .f32 w := rfl
/-- A magnitude at an index. -/
theorem absf_at (a : FVec Ideal s .f32) (i : s.Idx) : absf a i = max (a i) (-(a i)) := rfl
/-- A sign extension at an index. -/
theorem extsi_at (a : IVec s 8) (h : 8 < 32) (i : s.Idx) : extsi 32 a h i = (a i).signExtend 32 := rfl
end At

/-- The product of the first call's first two arguments. -/
theorem pay1_at (x : Vec Ideal S10000x128 .f32) (w : Vec Ideal S128x128 .f32) (k : Fin 10000) (j : Fin 128) :
    k0_pay1 x w (ix2 k j) = ∑ l : Fin 128, x (ix2 k l) * w (ix2 l j) := by
  unfold k0_pay1; pointwise

/-- The stored bytes. -/
theorem pay2_at (a : Vec Ideal S400x10000 .f32) (r : Fin 400) (k : Fin 10000) :
    (k0_pay2 a (ix3 0 r k)) = Ideal.fptosi 8 (rnd (a (ix2 r k) * 255) - 128) := by
  rw [ix3_eq_valueIdx, ix2_eq_valueIdx]
  unfold k0_pay2
  rw [ValueIdx.shapeCast_ab_1ab_apply, ← lit_255, ← lit_128]
  rfl

/-- A row sum of the second argument's block. -/
theorem pay3_at (a : Vec Ideal S400x10000 .f32) (r : Fin 400) :
    (k0_pay3 a (ix2 r 0)) = ∑ k, a (ix2 r k) := by
  unfold k0_pay3; pointwise

/-- The block's product with the kept buffer. -/
theorem pay4_at (a : Vec Ideal S400x10000 .f32) (s : Vec Ideal S10000x128 .f32) (r : Fin 400) (j : Fin 128) :
    (k0_pay4 a s (ix2 r j)) = ∑ k, a (ix2 r k) * s (ix2 k j) := by
  unfold k0_pay4; pointwise

/-- A column's mean. -/
theorem mean_at (X : Vec Ideal S10000x128 .f32) (j : Fin 128) :
    k1_pay7 0#32 X X (ix2 0 j) = meanOf X j := by
  unfold k1_pay7; rw [pick_first]; pointwise; rfl

/-- A deviation from the mean. -/
theorem dev_at (X : Vec Ideal S10000x128 .f32) (k : Fin 10000) (j : Fin 128) :
    k1_pay8 0#32 X X (ix2 k j) = devOf X k j := by
  unfold k1_pay8; rw [pick_first]; pointwise; rw [mean_at]; rfl

/-- A column's scale. -/
theorem amp_at (X : Vec Ideal S10000x128 .f32) (j : Fin 128) :
    k1_pay9 0#32 X X (ix2 0 j) = ampOf X j := by
  unfold k1_pay9 ampOf
  dsimp only
  rw [ValueIdx.maximumf_apply]
  refine congrArg₂ max ?_ rfl
  rw [ix2_eq_valueIdx, ValueIdx.shapeCast_a_1a_apply, ← ix1_eq_valueIdx]
  refine (colmax _ _ _ _ j).trans (congrArg (fun f => Finset.fold max ⊥ f (Finset.univ : Finset (Fin 10000))) (funext fun k => ?_))
  rw [← dev_at]
  rfl

/-- A column's stored code. -/
theorem code_at (X : Vec Ideal S10000x128 .f32) (k : Fin 10000) (j : Fin 128) :
    k1_pay11 0#32 X X (ix2 k j) = Ideal.fptosi 8 (rnd (argOf X k j)) := by
  unfold k1_pay11 argOf
  rw [← dev_at, ← amp_at, ← lit_127, fptosi_at, roundeven_at, ValueIdx.mulf_apply]
  generalize k1_pay9 0#32 X X = a
  rw [ix2_eq_valueIdx, ValueIdx.broadcastTo_1b_ab_apply, ValueIdx.divf_apply, splat_at, ix2_eq_valueIdx]

/-- The scale of the integer product. -/
theorem u_at (X : Vec Ideal S10000x128 .f32) (j : Fin 128) :
    k1_pay13 0#32 X X (ix2 0 j) = ampOf X j * ((1 / 127 : ℝ) : EReal) * ((1 / 255 : ℝ) : EReal) := by
  unfold k1_pay13 k1_pay10
  dsimp only
  rw [← amp_at, ← inv127, ← inv255, shapeCast_self, ValueIdx.mulf_apply, ValueIdx.mulf_apply, ValueIdx.broadcast_apply,
    ValueIdx.broadcast_apply]

/-- The part of the product that the 128 taken off each byte leaves out. -/
theorem v_at (X : Vec Ideal S10000x128 .f32) (j : Fin 128) :
    k1_pay14 0#32 X X (ix2 0 j) = ampOf X j * ((1 / 127 : ℝ) : EReal) * ((128 / 255 : ℝ) : EReal) * ofZ (∑ k, codeAt X j k) := by
  have e : ∑ k, codeAt X j k = ∑ k, (k1_pay11 0#32 X X (ix2 k j)).toInt :=
    Finset.sum_congr rfl fun k _ => by rw [code_at, (codeAt_spec X k j).2]
  rw [e, ← toInt_sum32 (le_refl _), ← amp_at, ← inv127, ← r128]
  unfold k1_pay14 k1_pay10
  dsimp only
  generalize k1_pay9 0#32 X X = a
  generalize k1_pay11 0#32 X X = w
  have hs : shapeCast S1x128 (multiReductionI .add [0] S128 (extsi 32 w natLt_8_32) 0#32 reduces_S10000x128_S128 rfl) shapeCasts_S128_S1x128 (ix2 0 j)
      = (Finset.univ : Finset (Fin 10000)).fold IntOp.addi 0#32 (fun k => (w (ix2 k j)).signExtend 32) := by
    rw [ix2_eq_valueIdx, ValueIdx.shapeCast_a_1a_apply, ← ix1_eq_valueIdx]
    exact colsum _ _ _ j
  rw [ValueIdx.mulf_apply, ValueIdx.mulf_apply, ValueIdx.mulf_apply, ValueIdx.broadcast_apply, ValueIdx.broadcast_apply,
    sitofp_at, hs]

/-- The integer product at a result index: its word, read signed, is the sum of the products, where their magnitudes
    total at most 2^26. -/
theorem product_at (q : IVec S400x10000 8) (s : IVec S10000x128 8) (r : Fin 400) (j : Fin 128)
    (h : ∑ k : Fin 10000, ((q (ix2 r k)).toInt * (s (ix2 k j)).toInt).natAbs ≤ 67108864) :
    (matmulI8 IntMxuNumerics.v5e dot_S400x10000_S10000x128_S400x128_1_0_0_1_n_n q s (constantI S400x128 32 0#32) (ix2 r j)).toInt
      = ∑ k : Fin 10000, (q (ix2 r k)).toInt * (s (ix2 k j)).toInt := by
  have hr : dot_S400x10000_S10000x128_S400x128_1_0_0_1_n_n.contr.rank = 1 := rfl
  have hL : ∀ k : dot_S400x10000_S10000x128_S400x128_1_0_0_1_n_n.contr.Idx,
      dot_S400x10000_S10000x128_S400x128_1_0_0_1_n_n.lhsIdx (ix2 r j) k = ix2 r (ValueIdx.contrEquiv1 _ 10000 rfl rfl k) := fun k => by
    funext a; match a with | ⟨0, _⟩ => rfl | ⟨1, _⟩ => rfl
  have hR : ∀ k : dot_S400x10000_S10000x128_S400x128_1_0_0_1_n_n.contr.Idx,
      dot_S400x10000_S10000x128_S400x128_1_0_0_1_n_n.rhsIdx (ix2 r j) k = ix2 (ValueIdx.contrEquiv1 _ 10000 rfl rfl k) j := fun k => by
    funext a; match a with | ⟨0, _⟩ => rfl | ⟨1, _⟩ => rfl
  have habs : absDotI8 dot_S400x10000_S10000x128_S400x128_1_0_0_1_n_n q s (ix2 r j)
      = ∑ k : Fin 10000, ((q (ix2 r k)).toInt * (s (ix2 k j)).toInt).natAbs := by
    unfold absDotI8
    simp only [hL, hR]
    exact Equiv.sum_comp (ValueIdx.contrEquiv1 _ 10000 rfl rfl) fun k : Fin 10000 => ((q (ix2 r k)).toInt * (s (ix2 k j)).toInt).natAbs
  have hdot : dotI8 dot_S400x10000_S10000x128_S400x128_1_0_0_1_n_n q s (ix2 r j)
      = ∑ k : Fin 10000, (q (ix2 r k)).toInt * (s (ix2 k j)).toInt := by
    unfold dotI8
    simp only [hL, hR]
    exact Equiv.sum_comp (ValueIdx.contrEquiv1 _ 10000 rfl rfl) fun k : Fin 10000 => (q (ix2 r k)).toInt * (s (ix2 k j)).toInt
  rw [matmulI8_toInt IntMxuNumerics.v5e _ q s _ _ rfl (by rw [habs]; exact h) (by decide), hdot]

/-- Rows of a hop: the stored bytes and row sums of row `i` against the quantised columns give the hop, where the
    magnitude total stays within 2^26. -/
theorem rows_at (A : Adj) (X : Vec Ideal S10000x128 .f32) (q : Vec Ideal S1x400x10000 .i8) (row : Vec Ideal S400x1 .f32)
    (r : Fin 400) (i : Fin 10000) (j : Fin 128)
    (hq : ∀ k, (q (ix3 0 r k)).toInt = byteZ A i k - 128) (hr : row (ix2 r 0) = ∑ k, A (ix2 i k))
    (hS : totalOf A X i j ≤ (((67108864 : ℕ) : ℝ) : EReal)) :
    rows1 q row (quant X) (ix2 r j) = hopOf A X i j := by
  have hcode : ∀ k, ((quant X).s8 (ix2 k j)).toInt = codeAt X j k := fun k => by
    show (k1_pay12 0#32 X X (ix2 k j)).toInt = _
    unfold k1_pay12
    rw [shapeCast_self, code_at, (codeAt_spec X k j).2]
  have hu : (quant X).u (ix2 0 j) = ampOf X j * ((1 / 127 : ℝ) : EReal) * ((1 / 255 : ℝ) : EReal) := u_at X j
  have hv : (quant X).v (ix2 0 j) = ampOf X j * ((1 / 127 : ℝ) : EReal) * ((128 / 255 : ℝ) : EReal) * ofZ (∑ k, codeAt X j k) := by
    show k1_pay1 (k1_pay14 0#32 X X) (ix2 0 j) = _
    unfold k1_pay1
    rw [shapeCast_self, v_at]
  have hm : (quant X).m (ix2 0 j) = meanOf X j := by
    show k1_pay2 (k1_pay7 0#32 X X) (ix2 0 j) = _
    unfold k1_pay2
    rw [shapeCast_self, mean_at]
  rw [hopOf_eq, ← hr, ← hu, ← hv, ← hm]
  have hb := total_bound A X i j hS
  unfold rows1
  generalize (quant X).s8 = s8 at hcode ⊢
  generalize (quant X).u = u
  generalize (quant X).v = v
  generalize (quant X).m = m
  have hl : ∀ k, (shapeCast S400x10000 q shapeCasts_S1x400x10000_S400x10000 (ix2 r k)).toInt = byteZ A i k - 128 := fun k => by
    rw [ix2_eq_valueIdx, ValueIdx.shapeCast_1ab_ab_apply, ← ix3_eq_valueIdx, hq]
  have hdot := product_at (shapeCast S400x10000 q shapeCasts_S1x400x10000_S400x10000) s8 r j
    (by simp only [hl, hcode]; exact hb)
  simp only [hl, hcode] at hdot
  rw [← hdot]
  have hrow : broadcastTo S400x128 (shapeCast S400x1 row shapeCasts_S400x1_S400x1) broadcasts_S400x1_S400x128 (ix2 r j) = row (ix2 r 0) := by
    rw [shapeCast_self]; pointwise
  have hone : ∀ z : FVec Ideal S1x128 .f32, broadcastTo S400x128 z broadcasts_S1x128_S400x128 (ix2 r j) = z (ix2 0 j) := fun z => by
    rw [ix2_eq_valueIdx, ValueIdx.broadcastTo_1b_ab_apply, ix2_eq_valueIdx]
  unfold k1_pay3
  simp only [ValueIdx.addf_apply, ValueIdx.mulf_apply, hrow, hone, sitofp_at]

end Cert.KernelIdeal.Hand

end
-- ==== Proof.Feats.lean ====
/-
  The products and hops as whole arrays of features.
-/
module

public import proofs.«01_k».proof.Proof.Maths

@[expose] public section

noncomputable section

namespace Cert.KernelIdeal.Hand

open Idealize.ShloMosaic

/-- The first product. -/
def suppOf (x : Feat) (w : (⟨2, ![128, 128]⟩ : Shape).Idx → EReal) : Feat := fun y => ∑ l : Fin 128, x (ix2 (y 0) l) * w (ix2 l (y 1))

/-- A product with the square argument. -/
def nextOf (A : Adj) (S : Feat) : Feat := fun y => ∑ k : Fin 10000, A (ix2 (y 0) k) * S (ix2 k (y 1))

/-- One hop, as features. -/
def hopFeat (A : Adj) (X : Feat) : Feat := fun y => hopOf A X (y 0) (y 1)

end Cert.KernelIdeal.Hand

end
-- ==== Proof.Arrays.lean ====
/-
  The arrays the first call leaves, read at an index over the extended reals.
-/
module

public import proofs.«01_k».proof.Proof.Values
public import proofs.«01_k».proof.Proof.Feats
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable (W : Dev nD → Valuation τ sig (Elt Ideal)) (c : Dev nD)

/-- The first call's blocks. -/
theorem idx0 : ∀ t : Fin cfg0.N, t.val < 25 ∧ win0_0.index t = ![0, 0] ∧ win0_1.index t = ![0, 0] ∧ win0_2.index t = ![t.val, 0]
    ∧ win0_3.index t = ![t.val, 0, 0] ∧ win0_4.index t = ![t.val, 0] ∧ win0_5.index t = ![t.val, 0] ∧ win0_6.index t = ![t.val, 0] :=
  (by decide +kernel : ∀ t : Fin grid0.N, _)

/-- The features' block is the whole array. -/
theorem blk0_0 (t : Fin cfg0.N) (k : Fin 10000) (l : Fin 128) :
    blk0 W c 0 t (ix2 k l) = W c (Proc.devRef .tc main_arg0) (ix2 k l) := by
  blk_ext [blk0, idx0 t]

/-- The weights' block is the whole array. -/
theorem blk0_1 (t : Fin cfg0.N) (k : Fin 128) (l : Fin 128) :
    blk0 W c 1 t (ix2 k l) = W c (Proc.devRef .tc main_arg2) (ix2 k l) := by
  blk_ext [blk0, idx0 t]

/-- Block `t` of the square argument is its rows from `400·t`. -/
theorem blk0_2 (t : Fin cfg0.N) (r : Fin 400) (k : Fin 10000) (i : Fin 10000) (hi : i.val = t.val * 400 + r.val) :
    blk0 W c 2 t (ix2 r k) = W c (Proc.devRef .tc main_arg1) (ix2 i k) := by
  blk_ext [blk0, idx0 t]

/-- The kept buffer holds the first product. -/
theorem kept0_at (k : Fin 10000) (j : Fin 128) :
    kept0 W c (ix2 k j) = suppOf (W c (Proc.devRef .tc main_arg0)) (W c (Proc.devRef .tc main_arg2)) (ix2 k j) := by
  unfold kept0
  refine (pay1_at _ _ k j).trans (Finset.sum_congr rfl fun l _ => ?_)
  rw [blk0_0, blk0_1]
  rfl

/-- Where the fourth result's own rows start. -/
theorem off0_val : ∀ t : Fin grid0.N, k0_off1 (grid0.coords t) (0 : Fin 2) = 400 * t.val ∧ k0_off1 (grid0.coords t) (1 : Fin 2) = 0 := by
  decide +kernel

/-- The kept buffer holds the first product, as a whole. -/
theorem kept0_eq : kept0 W c = suppOf (W c (Proc.devRef .tc main_arg0)) (W c (Proc.devRef .tc main_arg2)) := by
  funext y; idx_vars y; exact kept0_at W c _ _

/-- The third result at an index of a block. -/
theorem pt0_5 (t : Fin cfg0.N) (r : Fin 400) (j : Fin 128) (i : Fin 10000) (hi : i.val = t.val * 400 + r.val) :
    k0_pay4 (blk0 W c 2 t) (kept0 W c) (ix2 r j)
      = nextOf (W c (Proc.devRef .tc main_arg1)) (suppOf (W c (Proc.devRef .tc main_arg0)) (W c (Proc.devRef .tc main_arg2))) (ix2 i j) := by
  refine (pay4_at _ _ r j).trans (Finset.sum_congr rfl fun k _ => ?_)
  rw [blk0_2 W c t r k i hi, kept0_eq]
  rfl

/-- The third result: the second argument times the first product. -/
theorem arr0_5 : (dat0 W c).arrAt 5 cfg0.N
    = nextOf (W c (Proc.devRef .tc main_arg1)) (suppOf (W c (Proc.devRef .tc main_arg0)) (W c (Proc.devRef .tc main_arg2))) := by
  refine (dat0 W c).arrAt_eq_of_covers 5 _ (by decide +kernel) fun t _ y => ?_
  blk_simp
  rw [after0_5]
  have ht := (idx0 t).1
  idx_vars y
  refine (pt0_5 W c t y0 y1 ⟨t.val * 400 + y0.val, by omega⟩ rfl).trans ?_
  refine congrArg _ ?_
  blk_ext [idx0 t]

/-- The fourth result at an index of a block. -/
theorem pt0_6 (t : Fin cfg0.N) (r : Fin 400) (j : Fin 128) (i : Fin 10000) (hi : i.val = t.val * 400 + r.val) :
    res0 (grid0.coords t) (blk0 W c 2 t) (kept0 W c) (ix2 r j)
      = nextOf (W c (Proc.devRef .tc main_arg1)) (suppOf (W c (Proc.devRef .tc main_arg0)) (W c (Proc.devRef .tc main_arg2))) (ix2 i j)
        + suppOf (W c (Proc.devRef .tc main_arg0)) (W c (Proc.devRef .tc main_arg2)) (ix2 i j) := by
  unfold res0 k0_pay5
  rw [ValueIdx.addf_apply, pt0_5 W c t r j i hi, kept0_eq]
  refine congrArg (_ + ·) ?_
  refine congrArg (suppOf _ _) (funext fun a => Fin.ext ?_)
  have h := off0_val t
  match a with
  | ⟨0, _⟩ => show k0_off1 (grid0.coords t) (0 : Fin 2) + 1 * r.val = i.val; rw [h.1, hi]; omega
  | ⟨1, _⟩ => show k0_off1 (grid0.coords t) (1 : Fin 2) + 1 * j.val = j.val; rw [h.2]; omega

/-- The fourth result: the third plus the first product. -/
theorem arr0_6 : (dat0 W c).arrAt 6 cfg0.N
    = fun y => nextOf (W c (Proc.devRef .tc main_arg1)) (suppOf (W c (Proc.devRef .tc main_arg0)) (W c (Proc.devRef .tc main_arg2))) y
        + suppOf (W c (Proc.devRef .tc main_arg0)) (W c (Proc.devRef .tc main_arg2)) y := by
  refine (dat0 W c).arrAt_eq_of_covers 6 _ (by decide +kernel) fun t _ y => ?_
  blk_simp
  rw [after0_6]
  have ht := (idx0 t).1
  idx_vars y
  have e : (win0_6.blk t).view.emb (ix2 y0 y1) = ix2 (⟨t.val * 400 + y0.val, by omega⟩ : Fin 10000) y1 := by blk_ext [idx0 t]
  rw [e]
  exact pt0_6 W c t y0 y1 ⟨t.val * 400 + y0.val, by omega⟩ rfl

/-- The second result: the row sums. -/
theorem arr0_4 : (dat0 W c).arrAt 4 cfg0.N = fun y => ∑ k : Fin 10000, (show Adj from W c (Proc.devRef .tc main_arg1)) (ix2 (y 0) k) := by
  refine (dat0 W c).arrAt_eq_of_covers 4 _ (by decide +kernel) fun t _ y => ?_
  blk_simp
  rw [after0_4]
  have ht := (idx0 t).1
  idx_vars y
  have e : (win0_4.blk t).view.emb (ix2 y0 y1) = ix2 (⟨t.val * 400 + y0.val, by omega⟩ : Fin 10000) y1 := by blk_ext [idx0 t]
  rw [e]
  obtain rfl : y1 = 0 := Subsingleton.elim _ _
  refine (pay3_at _ y0).trans (Finset.sum_congr rfl fun k _ => ?_)
  exact blk0_2 W c t y0 k ⟨t.val * 400 + y0.val, by omega⟩ rfl

/-- The stored bytes of the second argument, block by block. -/
def storedOf (A : Adj) : IVec S25x400x10000 8 := fun y =>
  Ideal.fptosi 8 (rnd (A (ix2 ⟨(y 0).val * 400 + (y 1).val, by
    have h0 : (y 0).val < 25 := (y 0).isLt
    have h1 : (y 1).val < 400 := (y 1).isLt
    omega⟩ (y 2)) * 255) - 128)

/-- The first result: the stored bytes, block by block. -/
theorem arr0_3 : (dat0 W c).arrAt 3 cfg0.N = storedOf (W c (Proc.devRef .tc main_arg1)) := by
  refine (dat0 W c).arrAt_eq_of_covers 3 _ (by decide +kernel) fun t _ y => ?_
  blk_simp
  rw [after0_3]
  have ht := (idx0 t).1
  idx_vars y
  have e : (win0_3.blk t).view.emb (ix3 y0 y1 y2) = ix3 (⟨t.val, ht⟩ : Fin 25) y1 y2 := by blk_ext [idx0 t]
  rw [e]
  obtain rfl : y0 = 0 := Subsingleton.elim _ _
  refine (pay2_at _ y1 y2).trans ?_
  rw [blk0_2 W c t y1 y2 ⟨t.val * 400 + y1.val, by omega⟩ rfl]
  rfl

end Cert.KernelIdeal.Hand

end
-- ==== Proof.Second.lean ====
/-
  The second call over the extended reals: what the first pass keeps is the hop of the first call's third result, and the
  result array holds, at every index, the sum of the five terms.
-/
module

public import proofs.«01_k».proof.Proof.Values
public import proofs.«01_k».proof.Proof.Feats
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable (W : Dev nD → Valuation τ sig (Elt Ideal)) (c : Dev nD)

/-- The second call's blocks. -/
theorem idx1 : ∀ t : Fin cfg1.N, t.val < 50 ∧ win1_0.index t = ![t.val % 25, 0, 0] ∧ win1_1.index t = ![0, 0] ∧ win1_2.index t = ![t.val % 25, 0]
    ∧ win1_3.index t = ![t.val % 25, 0] ∧ win1_4.index t = ![0, 0] ∧ win1_5.index t = ![t.val % 25, 0] :=
  (by decide +kernel : ∀ t : Fin grid1.N, _)

/-- The result is written back at every point of the second pass. -/
theorem flush1_5 : ∀ t : Fin cfg1.N, 25 ≤ t.val → win1_5.flush t = true :=
  (by decide +kernel : ∀ t : Fin grid1.N, _)

/-- A block of stored bytes. -/
theorem blk1_0 (t : Fin cfg1.N) (r : Fin 400) (k : Fin 10000) (n : Fin 25) (hn : n.val = t.val % 25) :
    blk1 W c 0 t (ix3 0 r k) = W c (Proc.devRef .tc main_call0_v0_0) (ix3 n r k) := by
  blk_ext [blk1, idx1 t]

/-- The first pass's features, whole. -/
theorem blk1_1 (t : Fin cfg1.N) (k : Fin 10000) (j : Fin 128) :
    blk1 W c 1 t (ix2 k j) = W c (Proc.devRef .tc main_call0_v0_2) (ix2 k j) := by
  blk_ext [blk1, idx1 t]

/-- A block of the first three terms' partial sum. -/
theorem blk1_2 (t : Fin cfg1.N) (r : Fin 400) (j : Fin 128) (i : Fin 10000) (hi : i.val = t.val % 25 * 400 + r.val) :
    blk1 W c 2 t (ix2 r j) = W c (Proc.devRef .tc main_call0_v0_3) (ix2 i j) := by
  blk_ext [blk1, idx1 t]

/-- A block of row sums. -/
theorem blk1_3 (t : Fin cfg1.N) (r : Fin 400) (i : Fin 10000) (hi : i.val = t.val % 25 * 400 + r.val) :
    blk1 W c 3 t (ix2 r 0) = W c (Proc.devRef .tc main_call0_v0_1) (ix2 i 0) := by
  blk_ext [blk1, idx1 t]

/-- The bias, whole. -/
theorem blk1_4 (t : Fin cfg1.N) (j : Fin 128) :
    blk1 W c 4 t (ix2 0 j) = W c (Proc.devRef .tc main_call0_v1) (ix2 0 j) := by
  blk_ext [blk1, idx1 t]

/-- An array whose late write-backs all agree with `G` is `G` wherever one of them landed. -/
theorem arrAt_late (dat : Dat τ (Elt Ideal) Unit ℕ (UR sig nD τ) ℕ cfg1 c) (w : Fin cfg1.W) (t₀ : ℕ)
    (G : Buf (Elt Ideal) ((cfg1.win w).arr.view.loc (c.tc : Thread nD τ)))
    (hG : ∀ t : Fin cfg1.N, t₀ ≤ t.val → ∀ y : ((cfg1.win w).xblock (cfg1.grid.coords t)).Idx,
      _root_.cast (congrArg (Elt Ideal) ((cfg1.win w).blk t).view.elt_eq.symm) (dat.flushed w t y) = G (((cfg1.win w).blk t).view.emb y)) :
    ∀ (n : ℕ) (t : Fin cfg1.N) (i : ((cfg1.win w).arr.view.loc (c.tc : Thread nD τ)).2.ty.Idx), t.val < n → t₀ ≤ t.val →
      (cfg1.win w).flush t = true → i ∈ ((cfg1.win w).blk t).view.set → dat.arrAt w n i = G i
  | 0, _, _, ht, _, _, _ => absurd ht (Nat.not_lt_zero _)
  | n + 1, t, i, ht, h0, hf, hi => by
    rw [dat.arrAt_succ_apply]
    by_cases hn : n < cfg1.N
    swap
    · rw [dif_neg hn]
      exact arrAt_late dat w t₀ G hG n t i (by have := t.isLt; omega) h0 hf hi
    rw [dif_pos hn]
    by_cases hfn : (cfg1.win w).flush ⟨n, hn⟩ = true
    · rw [if_pos hfn]
      by_cases hin : i ∈ ((cfg1.win w).blk ⟨n, hn⟩).view.set
      · obtain ⟨y, -, rfl⟩ := Finset.mem_map.mp hin
        rw [View.write_emb_of_mem _ _ (Finset.mem_univ y)]
        exact hG _ (show t₀ ≤ n by omega) y
      · rw [View.write_of_not_mem _ _ _ (by rwa [View.setOn_univ])]
        have htn : t.val ≠ n := fun e => hin (by have : t = ⟨n, hn⟩ := Fin.ext e; exact this ▸ hi)
        exact arrAt_late dat w t₀ G hG n t i (by omega) h0 hf hi
    · rw [if_neg hfn]
      have htn : t.val ≠ n := fun e => hfn (by have : t = ⟨n, hn⟩ := Fin.ext e; exact this ▸ hf)
      exact arrAt_late dat w t₀ G hG n t i (by omega) h0 hf hi

/-- What the second call finds: the first call's four results and the bias as a row. -/
structure Found (A : Adj) (S X : Feat) (b : Fin 128 → EReal) : Prop where
  bytes : ∀ (n : Fin 25) (r : Fin 400) (k i : Fin 10000), i.val = n.val * 400 + r.val →
    ((show IVec S25x400x10000 8 from W c (Proc.devRef .tc main_call0_v0_0)) (ix3 n r k)).toInt = byteZ A i k - 128
  sums : ∀ i : Fin 10000, (show FVec Ideal S10000x1 .f32 from W c (Proc.devRef .tc main_call0_v0_1)) (ix2 i 0) = ∑ k : Fin 10000, A (ix2 i k)
  feats : (show Feat from W c (Proc.devRef .tc main_call0_v0_2)) = X
  part : ∀ y, (show Feat from W c (Proc.devRef .tc main_call0_v0_3)) y = X y + S y
  bias : ∀ j : Fin 128, (show FVec Ideal S1x128 .f32 from W c (Proc.devRef .tc main_call0_v1)) (ix2 0 j) = b j

variable {W c} {A : Adj} {S X : Feat} {b : Fin 128 → EReal} (hW : Found W c A S X b)
include hW

/-- The features the first pass works on. -/
theorem feats_eq (t : Fin cfg1.N) : blk1 W c 1 t = X := by
  rw [← hW.feats]
  funext y; idx_vars y
  exact blk1_1 W c t _ _

/-- The rows of a pass over `Z`. -/
theorem pass_at (Z : Vec Ideal S10000x128 .f32) (t : Fin cfg1.N) (r : Fin 400) (j : Fin 128) (i : Fin 10000) (hi : i.val = t.val % 25 * 400 + r.val)
    (hS : totalOf A Z i j ≤ (((67108864 : ℕ) : ℝ) : EReal)) :
    rows1 (blk1 W c 0 t) (blk1 W c 3 t) (quant Z) (ix2 r j) = hopOf A Z i j := by
  refine rows_at A Z _ _ r i j (fun k => ?_) ?_ hS
  · refine (congrArg BitVec.toInt (blk1_0 W c t r k ⟨t.val % 25, Nat.mod_lt _ (by decide)⟩ rfl)).trans ?_
    exact hW.bytes _ r k i hi
  · exact (blk1_3 W c t r i hi).trans (hW.sums i)

/-- What the first pass keeps: the hop of its features. -/
theorem mid_eq (h1 : ∀ i j, totalOf A X i j ≤ (((67108864 : ℕ) : ℝ) : EReal)) : midArr W c = hopFeat A X := by
  funext y; idx_vars y
  have hy : y0.val < 10000 := y0.isLt
  refine (show midArr W c (ix2 y0 y1) = rowsA W c (ptA (y0.val / 400) (by omega)) (ix2 ⟨y0.val % 400, by omega⟩ y1) from
    congrArg (rowsA W c (ptA (y0.val / 400) (by omega))) (ix2_eq_valueIdx (⟨y0.val % 400, by omega⟩ : Fin 400) y1).symm).trans ?_
  unfold rowsA keptA
  rw [feats_eq hW]
  refine pass_at hW X _ _ _ y0 ?_ (h1 _ _)
  show y0.val = (y0.val / 400) % 25 * 400 + y0.val % 400
  omega

/-- The result at an index of a block of the second pass. -/
theorem last_at (h1 : ∀ i j, totalOf A X i j ≤ (((67108864 : ℕ) : ℝ) : EReal))
    (h2 : ∀ i j, totalOf A (hopFeat A X) i j ≤ (((67108864 : ℕ) : ℝ) : EReal))
    (t : Fin cfg1.N) (ht : 25 ≤ t.val) (r : Fin 400) (j : Fin 128) (i : Fin 10000) (hi : i.val = t.val % 25 * 400 + r.val) :
    outAt W c t (ix2 r j) = X (ix2 i j) + S (ix2 i j) + hopFeat A X (ix2 i j) + hopFeat A (hopFeat A X) (ix2 i j) + b j := by
  have hrow : rowsAt (F := Ideal) (hopFeat A X) (k1_off2 (grid1.coords t)) (k1_off2_inb (grid1.coords t) ((cond3_iff t).mpr ht)) (ix2 r j) = hopFeat A X (ix2 i j) := by
    refine congrArg (hopFeat A X) (funext fun a => Fin.ext ?_)
    have h := off2_val t
    match a with
    | ⟨0, _⟩ => show k1_off2 (grid1.coords t) (0 : Fin 2) + 1 * r.val = i.val; rw [h.1, hi]; omega
    | ⟨1, _⟩ => show k1_off2 (grid1.coords t) (1 : Fin 2) + 1 * j.val = j.val; rw [h.2]; omega
  have hpass := pass_at hW (hopFeat A X) t r j i hi (h2 i j)
  have hpart := (blk1_2 W c t r j i hi).trans (hW.part (ix2 i j))
  have hbias := (blk1_4 W c t j).trans (hW.bias j)
  unfold outAt
  rw [dif_pos ((cond3_iff t).mpr ht)]
  unfold last1 keptB k1_pay5
  rw [mid_eq hW h1]
  unfold rows1 at hpass
  have hb : ∀ z : FVec Ideal S1x128 .f32, broadcastTo S400x128 (shapeCast S1x128 z shapeCasts_S1x128_S1x128) broadcasts_S1x128_S400x128 (ix2 r j) = z (ix2 0 j) := fun z => by
    rw [shapeCast_self, ix2_eq_valueIdx, ValueIdx.broadcastTo_1b_ab_apply, ix2_eq_valueIdx]
  rw [ValueIdx.addf_apply, ValueIdx.addf_apply, ValueIdx.addf_apply, hb, shapeCast_self, hpass, hrow, hpart, hbias]
  rfl

/-- The result array. -/
theorem arr1_5 (h1 : ∀ i j, totalOf A X i j ≤ (((67108864 : ℕ) : ℝ) : EReal))
    (h2 : ∀ i j, totalOf A (hopFeat A X) i j ≤ (((67108864 : ℕ) : ℝ) : EReal)) :
    (dat1 W c).arrAt 5 cfg1.N = fun y => X y + S y + hopFeat A X y + hopFeat A (hopFeat A X) y + b (y 1) := by
  funext i
  idx_vars i
  have hlt : i0.val < 10000 := i0.isLt
  have hN : cfg1.N = 50 := N_1
  refine arrAt_late c (dat1 W c) 5 25 (fun y => X y + S y + hopFeat A X y + hopFeat A (hopFeat A X) y + b (y 1)) (fun t ht y => ?_)
    cfg1.N ⟨25 + i0.val / 400, by omega⟩ (ix2 i0 i1) (by show 25 + i0.val / 400 < cfg1.N; omega) (by show 25 ≤ 25 + i0.val / 400; omega)
    (flush1_5 _ (by show 25 ≤ 25 + i0.val / 400; omega)) ?_
  · blk_simp
    rw [after1_5]
    idx_vars y
    have e : (win1_5.blk t).view.emb (ix2 y0 y1) = ix2 (⟨t.val % 25 * 400 + y0.val, by omega⟩ : Fin 10000) y1 := by blk_ext [idx1 t]
    rw [e]
    exact last_at hW h1 h2 t ht y0 y1 ⟨t.val % 25 * 400 + y0.val, by omega⟩ rfl
  · mem_blk [idx1]
    have hlt1 : i1.val < 128 := i1.isLt
    show ((25 + i0.val / 400) % 25 * 400 ≤ i0.val ∧ i0.val < (25 + i0.val / 400) % 25 * 400 + 400) ∧ 0 ≤ i1.val ∧ i1.val < 128
    omega

end Cert.KernelIdeal.Hand

end
-- ==== Proof.Result.lean ====
/-
  The whole program's result over the extended reals, from the arguments' launch contents.
-/
module

public import proofs.«01_k».proof.Proof.Run
public import proofs.«01_k».proof.Proof.Arrays
public import proofs.«01_k».proof.Proof.Second
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.ShloMosaic.Pipeline (Dat Cfg Window)

variable (m : (ℓ : Loc nD τ sig) → Buf (Elt Ideal) ℓ) (c : Dev nD)

/-- The features, as launched. -/
abbrev argX : Feat := m ((c.tc : Thread nD τ).loc main_arg0)
/-- The square argument, as launched. -/
abbrev argA : Adj := m ((c.tc : Thread nD τ).loc main_arg1)
/-- The weights, as launched. -/
abbrev argW : (⟨2, ![128, 128]⟩ : Shape).Idx → EReal := m ((c.tc : Thread nD τ).loc main_arg2)
/-- The bias, as launched. -/
abbrev argB : (⟨1, ![128]⟩ : Shape).Idx → EReal := m ((c.tc : Thread nD τ).loc main_arg3)

/-- The first call's results are what the second finds. -/
theorem B2_arr (w : Fin cfg0.W) (h : Pipeline.arrRef spec0 w ∉ hostOps1_W) :
    B2 m c (Proc.devRef .tc (Pipeline.arrRef spec0 w)) = (dat0 (B0 m) c).arrAt w cfg0.N :=
  (B2_keeps m c _ h).trans (B1_arr m c w)

/-- A vector reshaped to a row, at an index. -/
theorem reshape_row (z : FVec Ideal S128 .f32) (j : Fin 128) : shapeCast S1x128 z shapeCasts_S128_S1x128 (ix2 0 j) = z (ix1 j) := by
  rw [ix2_eq_valueIdx, ValueIdx.shapeCast_a_1a_apply, ← ix1_eq_valueIdx]

/-- The bias as a row. -/
theorem B2_bias (j : Fin 128) : (show FVec Ideal S1x128 .f32 from B2 m c (Proc.devRef .tc main_call0_v1)) (ix2 0 j) = argB m c (ix1 j) := by
  have e : B2 m c (Proc.devRef .tc main_call0_v1)
      = shapeCast S1x128 (show FVec Ideal S128 .f32 from B1 m c (Proc.devRef .tc main_arg3)) shapeCasts_S128_S1x128 := by
    unfold B2
    after_results
    rfl
  exact (congrFun e (ix2 0 j)).trans ((reshape_row _ j).trans (congrFun (B1_keeps m c main_arg3 (by decide)) (ix1 j)))

/-- What the second call finds, from the arguments. -/
theorem found : Found (B2 m) c (argA m c) (suppOf (argX m c) (argW m c)) (nextOf (argA m c) (suppOf (argX m c) (argW m c))) (fun j => argB m c (ix1 j)) where
  bytes n r k i hi := by
    have e := (B2_arr m c 3 (by decide)).trans (arr0_3 (B0 m) c)
    refine (congrArg (fun f : IVec S25x400x10000 8 => (f (ix3 n r k)).toInt) e).trans ?_
    have hi' : (⟨n.val * 400 + r.val, hi ▸ i.isLt⟩ : Fin 10000) = i := Fin.ext hi.symm
    exact (stored_byte _).trans (congrArg (fun i => byteZ (argA m c) i k - 128) hi')
  sums i := congrFun ((B2_arr m c 4 (by decide)).trans (arr0_4 (B0 m) c)) (ix2 i 0)
  feats := (B2_arr m c 5 (by decide)).trans (arr0_5 (B0 m) c)
  part y := congrFun ((B2_arr m c 6 (by decide)).trans (arr0_6 (B0 m) c)) y
  bias j := B2_bias m c j

/-- The result, where the magnitude totals fit. -/
theorem result_eq
    (h1 : ∀ i j, totalOf (argA m c) (nextOf (argA m c) (suppOf (argX m c) (argW m c))) i j ≤ (((67108864 : ℕ) : ℝ) : EReal))
    (h2 : ∀ i j, totalOf (argA m c) (hopFeat (argA m c) (nextOf (argA m c) (suppOf (argX m c) (argW m c)))) i j ≤ (((67108864 : ℕ) : ℝ) : EReal)) :
    B3 m c (Proc.devRef .tc main_v0) = fun y =>
      nextOf (argA m c) (suppOf (argX m c) (argW m c)) y + suppOf (argX m c) (argW m c) y
        + hopFeat (argA m c) (nextOf (argA m c) (suppOf (argX m c) (argW m c))) y
        + hopFeat (argA m c) (hopFeat (argA m c) (nextOf (argA m c) (suppOf (argX m c) (argW m c)))) y + argB m c (ix1 (y 1)) :=
  (B3_arr m c 5).trans (arr1_5 (found m c) h1 h2)

end Cert.KernelIdeal.Hand

end
-- ==== Proof.RefValue.lean ====
/-
  The reference's result over the extended reals, read at an index: its operations named piece by piece, each piece read.
-/
module

public import proofs.«01_k».proof.Proof.Columns
public import proofs.«01_k».proof.Proof.Feats
public import proofs.«01_k».proof.Proof.Gen.ReferenceIdeal.Run
public import Idealize.ShloMosaic.Lib.Pointwise

@[expose] public section

set_option maxRecDepth 16384

noncomputable section

namespace Cert.RefHand

open Cert.ReferenceIdeal Cert.ReferenceIdeal.Gen
open Idealize.ShloMosaic Idealize.ShloMosaic.TcCoe
open Cert.KernelIdeal.Hand (Feat Adj rnd suppOf nextOf hopFeat hopOf totalOf meanOf devOf ampOf argOf byteAt tiny rowsN lit_255 lit_128 lit_127 lit_0 colmaxHost)

/-! ### The pieces -/

/-- A row vector along every row. -/
abbrev along (z : FVec Ideal S1x128 .f32) : FVec Ideal S10000x128 .f32 := broadcastInDim S10000x128 ![0, 1] bcast_S1x128_S10000x128_0_1 z
/-- A literal as a row vector. -/
abbrev rowLit (w : BitVec 32) : FVec Ideal S1x128 .f32 := broadcastInDim S1x128 ![] bcast_S_S1x128 (constant (F := Ideal) S_ .f32 w)
/-- A literal as a square. -/
abbrev sqLit (w : BitVec 32) : FVec Ideal S10000x10000 .f32 := broadcastInDim S10000x10000 ![] bcast_S_S10000x10000 (constant (F := Ideal) S_ .f32 w)
/-- The columns' means. -/
def mean1 (X : FVec Ideal S10000x128 .f32) : FVec Ideal S1x128 .f32 :=
  Host.divf (broadcastInDim S1x128 ![1] bcast_S128_S1x128_1 (Host.reduceAdd X (constant S_ .f32 0x00000000#32) reducesTo_S10000x128_S128_d0 h_S_)) (rowLit 0x461C4000#32)
/-- The columns' scales. -/
def amp1 (X : FVec Ideal S10000x128 .f32) : FVec Ideal S1x128 .f32 :=
  maximumf (broadcastInDim S1x128 ![1] bcast_S128_S1x128_1
    (Host.reduce FloatOps.maximumf (Host.absf (subf X (along (mean1 X)))) (constant S_ .f32 0xFF800000#32) reducesTo_S10000x128_S128_d0 h_S_)) (rowLit 0x0DA24260#32)
/-- The columns' codes. -/
def codes1 (X : FVec Ideal S10000x128 .f32) : FVec Ideal S10000x128 .f32 :=
  Host.roundeven (mulf (subf X (along (mean1 X))) (along (Host.divf (rowLit 0x42FE0000#32) (amp1 X))))
/-- The square argument's codes. -/
def bytes1 (A : FVec Ideal S10000x10000 .f32) : FVec Ideal S10000x10000 .f32 :=
  minimumf (broadcastInDim S10000x10000 ![] bcast_S_S10000x10000 (id (constant (F := Ideal) S_ .f32 0x437F0000#32)))
    (maximumf (broadcastInDim S10000x10000 ![] bcast_S_S10000x10000 (id (constant (F := Ideal) S_ .f32 0x00000000#32))) (Host.roundeven (mulf A (sqLit 0x437F0000#32))))
/-- The first product. -/
def supp1 (x : FVec Ideal S10000x128 .f32) (w : FVec Ideal S128x128 .f32) : FVec Ideal S10000x128 .f32 :=
  Host.dotGeneral dot_S10000x128_S128x128_S10000x128_1_0_0_1_n_n none x w
/-- A product with the square argument. -/
def next1 (A : FVec Ideal S10000x10000 .f32) (S : FVec Ideal S10000x128 .f32) : FVec Ideal S10000x128 .f32 :=
  Host.dotGeneral dot_S10000x10000_S10000x128_S10000x128_1_0_0_1_n_n none A S
/-- The row sums along every column. -/
def sums1 (A : FVec Ideal S10000x10000 .f32) : FVec Ideal S10000x128 .f32 :=
  broadcastInDim S10000x128 ![0, 1] bcast_S10000x1_S10000x128_0_1 (broadcastInDim S10000x1 ![0] bcast_S10000_S10000x1_0
    (Host.reduceAdd A (constant S_ .f32 0x00000000#32) reducesTo_S10000x10000_S10000_d1 h_S_))
/-- One hop. -/
def hop1 (A : FVec Ideal S10000x10000 .f32) (X : FVec Ideal S10000x128 .f32) : FVec Ideal S10000x128 .f32 :=
  addf (next1 (Host.divf (bytes1 A) (sqLit 0x437F0000#32)) (mulf (codes1 X) (along (Host.divf (amp1 X) (rowLit 0x42FE0000#32)))))
    (mulf (sums1 A) (along (mean1 X)))
/-- The magnitude totals of a hop's integer product. -/
def total1 (A : FVec Ideal S10000x10000 .f32) (X : FVec Ideal S10000x128 .f32) : FVec Ideal S10000x128 .f32 :=
  next1 (Host.absf (subf (bytes1 A) (sqLit 0x43000000#32))) (Host.absf (codes1 X))
/-- The bias along every row. -/
def bias1 (b : FVec Ideal S128 .f32) : FVec Ideal S10000x128 .f32 := along (broadcastInDim S1x128 ![1] bcast_S128_S1x128_1 b)

/-- The reference's result from its pieces. -/
def result1 (x : FVec Ideal S10000x128 .f32) (A : FVec Ideal S10000x10000 .f32) (w : FVec Ideal S128x128 .f32) (b : FVec Ideal S128 .f32) :
    FVec Ideal S10000x128 .f32 :=
  addf (addf (addf (addf (supp1 x w) (next1 A (supp1 x w))) (hop1 A (next1 A (supp1 x w)))) (hop1 A (hop1 A (next1 A (supp1 x w))))) (bias1 b)

/-- The run's term is that result. -/
theorem res_eq (m : (ℓ : Loc nD τ sig) → Buf (Elt Ideal) ℓ) (c : Dev nD) :
    Value.res_main_v77 m c = result1 (m ((c.tc : Thread nD τ).loc main_arg0)) (m ((c.tc : Thread nD τ).loc main_arg1))
      (m ((c.tc : Thread nD τ).loc main_arg2)) (m ((c.tc : Thread nD τ).loc main_arg3)) := by
  unfold Value.res_main_v77 result1 hop1 codes1 amp1 mean1 bytes1 sums1 bias1 next1 supp1
  rfl

/-! ### The pieces at an index -/

section At
variable {s : Shape}
/-- A host quotient at an index. -/
theorem hdiv_at (a b : FVec Ideal s .f32) (i : s.Idx) : Host.divf a b i = Ideal.div (a i) (b i) := rfl
/-- A host rounding at an index. -/
theorem hround_at (a : FVec Ideal s .f32) (i : s.Idx) : Host.roundeven a i = rnd (a i) := rfl
/-- A host magnitude at an index. -/
theorem habs_at (a : FVec Ideal s .f32) (i : s.Idx) : Host.absf a i = max (a i) (-(a i)) := rfl
end At

/-- A literal's row vector at an index. -/
theorem rowLit_at (w : BitVec 32) (i : S1x128.Idx) : rowLit w i = Ideal.ofBits .f32 w := rfl
/-- A literal's square at an index. -/
theorem sqLit_at (w : BitVec 32) (i : S10000x10000.Idx) : sqLit w i = Ideal.ofBits .f32 w := rfl
/-- A row vector along every row, at an index. -/
theorem along_at (z : FVec Ideal S1x128 .f32) (k : Fin 10000) (j : Fin 128) : along z (ix2 k j) = z (ix2 0 j) := by
  unfold along; pointwise
/-- A vector as a row, at an index. -/
theorem row_at (z : FVec Ideal S128 .f32) (j : Fin 128) : broadcastInDim S1x128 ![1] bcast_S128_S1x128_1 z (ix2 0 j) = z (ix1 j) := by
  pointwise

/-- The first product. -/
theorem supp1_at (x : FVec Ideal S10000x128 .f32) (w : FVec Ideal S128x128 .f32) : supp1 x w = suppOf x w := by
  funext y; idx_vars y; unfold supp1 suppOf; pointwise

/-- A product with the square argument, at an index. -/
theorem next1_at (A : FVec Ideal S10000x10000 .f32) (S : FVec Ideal S10000x128 .f32) (i : Fin 10000) (j : Fin 128) :
    next1 A S (ix2 i j) = ∑ k : Fin 10000, A (ix2 i k) * S (ix2 k j) := by
  unfold next1; pointwise

/-- A column's mean. -/
theorem mean1_at (X : FVec Ideal S10000x128 .f32) (j : Fin 128) : mean1 X (ix2 0 j) = meanOf X j := by
  unfold mean1; rw [hdiv_at, rowLit_at, row_at]; pointwise; rfl

/-- A column's scale. -/
theorem amp1_at (X : FVec Ideal S10000x128 .f32) (j : Fin 128) : amp1 X (ix2 0 j) = ampOf X j := by
  unfold amp1 ampOf
  rw [ValueIdx.maximumf_apply, rowLit_at, row_at]
  refine congrArg₂ max ?_ rfl
  refine (colmaxHost _ _ _ j).trans (congrArg (fun f => Finset.fold max ⊥ f (Finset.univ : Finset (Fin 10000))) (funext fun k => ?_))
  rw [habs_at, ValueIdx.subf_apply, along_at, mean1_at]
  rfl

/-- A column's codes. -/
theorem codes1_at (X : FVec Ideal S10000x128 .f32) (k : Fin 10000) (j : Fin 128) : codes1 X (ix2 k j) = rnd (argOf X k j) := by
  unfold codes1 argOf devOf
  rw [hround_at, ValueIdx.mulf_apply, ValueIdx.subf_apply, along_at, along_at, mean1_at, hdiv_at, rowLit_at, amp1_at, lit_127]

/-- The square argument's codes. -/
theorem bytes1_at (A : FVec Ideal S10000x10000 .f32) (i k : Fin 10000) : bytes1 A (ix2 i k) = byteAt A i k := by
  unfold bytes1 byteAt
  rw [ValueIdx.minimumf_apply, ValueIdx.maximumf_apply, hround_at, ValueIdx.mulf_apply, sqLit_at]
  show min (Ideal.ofBits .f32 0x437F0000#32) (max (Ideal.ofBits .f32 0x00000000#32) _) = _
  rw [lit_255, lit_0]

/-- The row sums. -/
theorem sums1_at (A : FVec Ideal S10000x10000 .f32) (i : Fin 10000) (j : Fin 128) : sums1 A (ix2 i j) = ∑ k : Fin 10000, A (ix2 i k) := by
  unfold sums1; pointwise

/-- One hop. -/
theorem hop1_at (A : FVec Ideal S10000x10000 .f32) (X : FVec Ideal S10000x128 .f32) (i : Fin 10000) (j : Fin 128) :
    hop1 A X (ix2 i j) = hopOf A X i j := by
  unfold hop1 hopOf
  rw [ValueIdx.addf_apply, ValueIdx.mulf_apply, sums1_at, along_at, mean1_at, next1_at]
  refine congrArg (· + _) (Finset.sum_congr rfl fun k _ => ?_)
  rw [hdiv_at, bytes1_at, sqLit_at, ValueIdx.mulf_apply, along_at, codes1_at, hdiv_at, rowLit_at, amp1_at, lit_255, lit_127]

/-- The magnitude totals. -/
theorem total1_at (A : FVec Ideal S10000x10000 .f32) (X : FVec Ideal S10000x128 .f32) (i : Fin 10000) (j : Fin 128) :
    total1 A X (ix2 i j) = totalOf A X i j := by
  unfold total1 totalOf
  rw [next1_at]
  refine Finset.sum_congr rfl fun k _ => ?_
  rw [habs_at, habs_at, ValueIdx.subf_apply, bytes1_at, sqLit_at, codes1_at, lit_128]

/-- The bias. -/
theorem bias1_at (b : FVec Ideal S128 .f32) (i : Fin 10000) (j : Fin 128) : bias1 b (ix2 i j) = b (ix1 j) := by
  unfold bias1; rw [along_at, row_at]

/-- A hop as a whole. -/
theorem hop1_eq (A : FVec Ideal S10000x10000 .f32) (X : FVec Ideal S10000x128 .f32) : hop1 A X = hopFeat A X := by
  funext y; idx_vars y; exact hop1_at A X _ _

/-- A product with the square argument as a whole. -/
theorem next1_eq (A : FVec Ideal S10000x10000 .f32) (S : FVec Ideal S10000x128 .f32) : next1 A S = nextOf A S := by
  funext y; idx_vars y; exact next1_at A S _ _

end Cert.RefHand

end
-- ==== Proof.Algebraic.lean ====
/-
  The value claim: where the magnitude totals fit, the kernel and the reference leave the same array over the extended reals.
-/
module

public import proofs.«01_k».proof.Defs
public import proofs.«01_k».proof.Proof.Result
public import proofs.«01_k».proof.Proof.RefValue

@[expose] public section

set_option maxRecDepth 16384

noncomputable section

namespace Cert.KernelIdeal.Hand

open Idealize.ShloMosaic Idealize.ShloMosaic.TcCoe Idealize.SL.Sem
open Cert.RefHand (supp1 next1 hop1 total1 bias1 result1)

/-- A comparison that says yes is the inequality. -/
theorem le_of_cmp {a b : EReal} (h : Ideal.cmp .ole a b = 1#1) : a ≤ b := by
  by_contra n
  have e : Ideal.cmp .ole a b = 0#1 := by
    unfold Ideal.cmp
    simp [n]
  rw [e] at h
  exact absurd h (by decide)

/-- The precondition's array is the comparison of the larger of the two hops' totals with the bound. -/
theorem fits_eq [Cert.Pre_totals_fit.Facts] (x : FVec Ideal Cert.ReferenceIdeal.S10000x128 .f32) (A : FVec Ideal Cert.ReferenceIdeal.S10000x10000 .f32)
    (w : FVec Ideal Cert.ReferenceIdeal.S128x128 .f32) (b : FVec Ideal Cert.ReferenceIdeal.S128 .f32) :
    Cert.Pre_totals_fit.fn (F := Ideal) x A w b
      = cmpf .ole (maximumf (total1 A (next1 A (supp1 x w))) (total1 A (hop1 A (next1 A (supp1 x w)))))
        (broadcastInDim Cert.Pre_totals_fit.S10000x128 ![] Cert.Pre_totals_fit.Facts.bcast_S_S10000x128
          (constant (F := Ideal) Cert.Pre_totals_fit.S_ .f32 0x4C800000#32)) := by
  unfold Cert.Pre_totals_fit.fn Cert.Pre_totals_fit.fn_part1 Cert.Pre_totals_fit.fn_part2 Cert.Pre_totals_fit.fn_part3 Cert.Pre_totals_fit.fn_part4
    Cert.Pre_totals_fit.fn_round Cert.Pre_totals_fit.fn_clip Cert.Pre_totals_fit.fn_round_0
    Cert.RefHand.total1 Cert.RefHand.hop1 Cert.RefHand.codes1 Cert.RefHand.amp1 Cert.RefHand.mean1 Cert.RefHand.bytes1 Cert.RefHand.sums1
    Cert.RefHand.next1 Cert.RefHand.supp1
  rfl

/-- Where the precondition holds, both hops' totals are within the bound. -/
theorem fits_at [Cert.Pre_totals_fit.Facts] (x : Feat) (A : Adj) (w : (⟨2, ![128, 128]⟩ : Shape).Idx → EReal) (b : (⟨1, ![128]⟩ : Shape).Idx → EReal)
    (h : Cert.Pre_totals_fit.fn (F := Ideal) x A w b = fun _ => 1#1) (i : Fin 10000) (j : Fin 128) :
    totalOf A (nextOf A (suppOf x w)) i j ≤ (((67108864 : ℕ) : ℝ) : EReal)
      ∧ totalOf A (hopFeat A (nextOf A (suppOf x w))) i j ≤ (((67108864 : ℕ) : ℝ) : EReal) := by
  have e : max (total1 A (next1 A (supp1 x w)) (ix2 i j)) (total1 A (hop1 A (next1 A (supp1 x w))) (ix2 i j)) ≤ Ideal.ofBits .f32 0x4C800000#32 :=
    le_of_cmp (congrFun ((fits_eq x A w b).symm.trans h) (ix2 i j))
  rw [lit_total, RefHand.total1_at, RefHand.total1_at, RefHand.hop1_eq, RefHand.next1_eq, RefHand.supp1_at] at e
  exact ⟨(le_max_left _ _).trans e, (le_max_right _ _).trans e⟩

/-- The reference's result, from the same pieces as the kernel's. -/
theorem reference_result (x : Feat) (A : Adj) (w : (⟨2, ![128, 128]⟩ : Shape).Idx → EReal) (b : (⟨1, ![128]⟩ : Shape).Idx → EReal) :
    result1 x A w b = fun y => nextOf A (suppOf x w) y + suppOf x w y + hopFeat A (nextOf A (suppOf x w)) y
      + hopFeat A (hopFeat A (nextOf A (suppOf x w))) y + b (ix1 (y 1)) := by
  have e : result1 x A w b = addf (addf (addf (addf (suppOf x w) (nextOf A (suppOf x w))) (hopFeat A (nextOf A (suppOf x w))))
      (hopFeat A (hopFeat A (nextOf A (suppOf x w))))) (bias1 b) := by
    unfold Cert.RefHand.result1
    rw [RefHand.hop1_eq, RefHand.hop1_eq, RefHand.next1_eq, RefHand.supp1_at]
  refine e.trans (funext fun y => ?_)
  idx_vars y
  rw [ValueIdx.addf_apply, ValueIdx.addf_apply, ValueIdx.addf_apply, ValueIdx.addf_apply, RefHand.bias1_at, add_comm (suppOf x w _)]

/-- The value claim. -/
theorem algebraic [Cert.Pre_totals_fit.Facts] : Cert.algebraic_KernelIdeal_ReferenceIdeal_pre_totals_fit := by
  intro m g m' g' hpre harg
  refine ⟨fun c => B3 m c (Proc.devRef .tc Cert.KernelIdeal.main_v0), (θ_run _ _ _).mono (fun _ h => h.1) (run_main m g),
    (θ_run _ _ _).mono (fun r h c => ⟨(h c).1.trans ?_, (h c).2⟩) (Cert.ReferenceIdeal.Value.run (F := Ideal) m' g')⟩
  obtain ⟨h0, h1, h2, h3⟩ := harg c
  have k := result_eq m c (fun i j => (fits_at _ _ _ _ (hpre c) i j).1) (fun i j => (fits_at _ _ _ _ (hpre c) i j).2)
  refine (RefHand.res_eq m' c).trans ?_
  rw [h0, h1, h2, h3]
  exact (reference_result _ _ _ _).trans k.symm

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_totals_fit
public import proofs.«01_k».proof.Proof.Algebraic
public import proofs.«01_k».proof.Proof.Run
public import proofs.«01_k».proof.Proof.Plain.Run
public import Idealize.ShloMosaic.Adequacy
public import Idealize.ShloMosaic.Init

@[expose] public section

noncomputable section

namespace Cert.Proof

open Idealize.ShloMosaic Idealize.SL.Sem

/-- The host-only reference runs to its end and leaves its arguments and every semaphore as they were. -/
theorem frame_reference : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The three named constants hold the values the table gives them. -/
theorem preserves : Cert.preserves_Kernel_KernelIdeal :=
  ⟨IdealRules.named_const.statement Cert.KernelIdeal.κ "inv_127" .f32 0x3C010204#32 ((1 / 127 : ℝ) : EReal) rfl,
   IdealRules.named_const.statement Cert.KernelIdeal.κ "inv_255" .f32 0x3B808081#32 ((1 / 255 : ℝ) : EReal) rfl,
   IdealRules.named_const.statement Cert.KernelIdeal.κ "r128_255" .f32 0x3F008081#32 ((128 / 255 : ℝ) : EReal) rfl⟩

/-- Every claim of the certificate. -/
theorem claim : Cert.Claim :=
  ⟨Cert.Kernel.Gen.facts, Cert.KernelIdeal.Gen.facts, Cert.ReferenceIdeal.Gen.facts, Cert.Pre_totals_fit.Gen.facts,
    fun m g _ => Cert.Kernel.Hand.frame_main m g,
    fun m g _ => Cert.KernelIdeal.Hand.frame_main m g,
    fun m g _ => Cert.KernelIdeal.Hand.frame_main m g,
    frame_reference,
    fun m g _ => frame_reference m g trivial,
    preserves,
    Cert.KernelIdeal.Hand.algebraic⟩

end Cert.Proof

end
